-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_channel_max_finite [hPre_channel_max_finite : Cert.Pre_channel_max_finite.Facts] (m : (ℓ : Loc Cert.KernelIdeal.nD Cert.KernelIdeal.τ Cert.KernelIdeal.sig) → Buf (Elt Ideal) ℓ) : Prop :=
  ∀ c : Dev Cert.KernelIdeal.nD,
    (Cert.Pre_channel_max_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_channel_max_finite [hPre_channel_max_finite : Cert.Pre_channel_max_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_channel_max_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_channel_max_finite [hKernelIdeal : Cert.KernelIdeal.Facts] [hPre_channel_max_finite : Cert.Pre_channel_max_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_channel_max_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_channel_max_finite [hReferenceIdeal : Cert.ReferenceIdeal.Facts] [hPre_channel_max_finite : Cert.Pre_channel_max_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_channel_max_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_channel_max_finite [hKernelIdeal : Cert.KernelIdeal.Facts] [hReferenceIdeal : Cert.ReferenceIdeal.Facts] [hPre_channel_max_finite : Cert.Pre_channel_max_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_channel_max_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v11) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_channel_max_finite : Cert.Pre_channel_max_finite.Facts),
    quiescent_Kernel (hKernel := hKernel)
    ∧ quiescent_KernelIdeal (hKernelIdeal := hKernelIdeal)
    ∧ quiescent_KernelIdeal_pre_channel_max_finite (hKernelIdeal := hKernelIdeal) (hPre_channel_max_finite := hPre_channel_max_finite)
    ∧ quiescent_ReferenceIdeal (hReferenceIdeal := hReferenceIdeal)
    ∧ quiescent_ReferenceIdeal_pre_channel_max_finite (hReferenceIdeal := hReferenceIdeal) (hPre_channel_max_finite := hPre_channel_max_finite)
    ∧ preserves_Kernel_KernelIdeal
    ∧ algebraic_KernelIdeal_ReferenceIdeal_pre_channel_max_finite (hKernelIdeal := hKernelIdeal) (hReferenceIdeal := hReferenceIdeal) (hPre_channel_max_finite := hPre_channel_max_finite)
-- ==== Pre_channel_max_finite.lean ====
abbrev S32x64x96x128 : Shape := ⟨4, ![32, 64, 96, 128]⟩
abbrev S_ : Shape := ⟨0, ![]⟩
abbrev S32x96x128 : Shape := ⟨3, ![32, 96, 128]⟩

class Facts : Prop where
  reducesTo_S32x64x96x128_S32x96x128_d1 : S32x64x96x128.ReducesTo [1] S32x96x128
  h_S_ : 0 < S_.numel
  bcast_S_S32x96x128 : S_.BroadcastsInDim S32x96x128 (![] : Fin 0 → Fin S32x96x128.rank)

variable [Facts]

def fn {F : FTy → Type} [FloatOps F] (main_arg0 : FVec F S32x64x96x128 .f32) (main_arg1 : IVec S_ 32) (main_arg2 : IVec S_ 32) : IVec S32x96x128 1 :=
  let main_cst : FVec F S_ .f32 := constant S_ .f32 0xFF800000#32
  let main_v0 : FVec F S32x96x128 .f32 := (fun x v => Host.reduce FloatOps.maximumf x v reducesTo_S32x64x96x128_S32x96x128_d1 h_S_) main_arg0 main_cst
  let main_v1 : FVec F S32x96x128 .f32 := Host.absf main_v0
  let main_cst_0 : FVec F S_ .f32 := constant S_ .f32 0x7F800000#32
  let main_v2 : FVec F S32x96x128 .f32 := broadcastInDim S32x96x128 ![] bcast_S_S32x96x128 main_cst_0
  let main_v3 : IVec S32x96x128 1 := cmpf .olt main_v1 main_v2
  main_v3
-- ==== Kernel.lean ====
abbrev S32x64x96x128 : Shape := ⟨4, ![32, 64, 96, 128]⟩
abbrev S_ : Shape := ⟨0, ![]⟩
abbrev S32x64x2 : Shape := ⟨3, ![32, 64, 2]⟩
abbrev S32x64 : Shape := ⟨2, ![32, 64]⟩
abbrev S2x64x96x128 : Shape := ⟨4, ![2, 64, 96, 128]⟩
abbrev S32x3x64 : Shape := ⟨3, ![32, 3, 64]⟩
abbrev S2x64x128 : Shape := ⟨3, ![2, 64, 128]⟩
abbrev S2x96x128 : Shape := ⟨3, ![2, 96, 128]⟩
abbrev S2x1x96x128 : Shape := ⟨4, ![2, 1, 96, 128]⟩
abbrev S2x128 : Shape := ⟨2, ![2, 128]⟩
abbrev S2x1x128 : Shape := ⟨3, ![2, 1, 128]⟩
abbrev S2x64 : Shape := ⟨2, ![2, 64]⟩
abbrev S2x1x64 : Shape := ⟨3, ![2, 1, 64]⟩
abbrev S64x64 : Shape := ⟨2, ![64, 64]⟩
abbrev S32x32 : Shape := ⟨2, ![32, 32]⟩
abbrev S32x1x64 : Shape := ⟨3, ![32, 1, 64]⟩
abbrev S32x64x1 : Shape := ⟨3, ![32, 64, 1]⟩
abbrev S1x64x64 : Shape := ⟨3, ![1, 64, 64]⟩
abbrev S32x64x64 : Shape := ⟨3, ![32, 64, 64]⟩
abbrev S32x1 : Shape := ⟨2, ![32, 1]⟩
abbrev S32 : Shape := ⟨1, ![32]⟩

abbrev nBuf : Space → Nat
  | .hbm => 6
  | .vmem => 10
  | .smem => 0
  | _ => 0

abbrev bufTy : (tb : Table) → Fin (tcTables nBuf tb) → BufTy
  | .hbm, ⟨0, _⟩ => ⟨S32x64x96x128, .f32⟩
  | .hbm, ⟨1, _⟩ => ⟨S_, .i32⟩
  | .hbm, ⟨2, _⟩ => ⟨S_, .i32⟩
  | .hbm, ⟨3, _⟩ => ⟨S32x64x96x128, .f32⟩
  | .hbm, ⟨4, _⟩ => ⟨S32x64x2, .f32⟩
  | .hbm, ⟨5, _⟩ => ⟨S32x64, .f32⟩
  | .local _ .vmem, ⟨0, _⟩ => ⟨S2x64x96x128, .f32⟩
  | .local _ .vmem, ⟨1, _⟩ => ⟨S2x64x96x128, .f32⟩
  | .local _ .vmem, ⟨2, _⟩ => ⟨S2x64x96x128, .f32⟩
  | .local _ .vmem, ⟨3, _⟩ => ⟨S2x64x96x128, .f32⟩
  | .local _ .vmem, ⟨4, _⟩ => ⟨S32x64x2, .f32⟩
  | .local _ .vmem, ⟨5, _⟩ => ⟨S32x64, .f32⟩
  | .local _ .vmem, ⟨6, _⟩ => ⟨S32x3x64, .f32⟩
  | .local _ .vmem, ⟨7, _⟩ => ⟨S2x64x96x128, .f32⟩
  | .local _ .vmem, ⟨8, _⟩ => ⟨S2x64x128, .f32⟩
  | .local _ .vmem, ⟨9, _⟩ => ⟨S2x64x128, .f32⟩
  | _, _ => ⟨S32x64x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c64_i32 : BitVec 32 := 64#32
  let v9 : BitVec 32 := Scalar.addi c0_i32 c64_i32
  let c1_i32 : BitVec 32 := 1#32
  ⟨c0_i32, v9, c1_i32⟩
def k0_off1 (k0_t1 : Fin k0_t1_loop.trips) : Fin 4 → Nat :=
  let c0_29 : Index := 0#32
  let c0_i32 : BitVec 32 := 0#32
  let c1_i32 : BitVec 32 := 1#32
  let arg9 : BitVec 32 := Scf.iv c0_i32 c1_i32 k0_t1
  let v36 : Index := Scalar.indexCast arg9
  let c0_30 : Index := 0#32
  let c0_31 : Index := 0#32
  ![0, v36.toNat, 0, 0]
def k0_off2 (k0_t1 : Fin k0_t1_loop.trips) : Fin 3 → Nat :=
  let c0_36 : Index := 0#32
  let c0_i32 : BitVec 32 := 0#32
  let c1_i32 : BitVec 32 := 1#32
  let arg9 : BitVec 32 := Scf.iv c0_i32 c1_i32 k0_t1
  let v46 : Index := Scalar.indexCast arg9
  let c0_37 : Index := 0#32
  ![0, v46.toNat, 0]
def k0_off3 (i : grid0.Coords) : Fin 3 → Nat :=
  let arg0 : BitVec 32 := BitVec.ofNat 32 (i 0).val
  let c2_i32 : BitVec 32 := 2#32
  let v15 : BitVec 32 := Scalar.muli arg0 c2_i32
  let v16 : Index := Scalar.indexCast v15
  let c0_20 : Index := 0#32
  let c0_21 : Index := 0#32
  ![v16.toNat, 0, 0]
def k0_off4 (i : grid0.Coords) : Fin 3 → Nat :=
  let arg0 : BitVec 32 := BitVec.ofNat 32 (i 0).val
  let c2_i32_23 : BitVec 32 := 2#32
  let v22 : BitVec 32 := Scalar.muli arg0 c2_i32_23
  let v23 : Index := Scalar.indexCast v22
  let c1 : Index := 1#32
  let c0_24 : Index := 0#32
  ![v23.toNat, 1, 0]
def k0_off5 (i : grid0.Coords) : Fin 3 → Nat :=
  let arg0 : BitVec 32 := BitVec.ofNat 32 (i 0).val
  let c2_i32_26 : BitVec 32 := 2#32
  let v28 : BitVec 32 := Scalar.muli arg0 c2_i32_26
  let v29 : Index := Scalar.indexCast v28
  let c2 : Index := 2#32
  let c0_27 : Index := 0#32
  ![v29.toNat, 2, 0]
def k0_cond1 (i : grid0.Coords) : BitVec 1 :=
  let arg0 : BitVec 32 := BitVec.ofNat 32 (i 0).val
  let c15_i32 : BitVec 32 := 15#32
  let v33 : BitVec 1 := Scalar.cmpi .eq arg0 c15_i32
  let v34 : BitVec 32 := Scalar.extui v33
  let c0_i32_28 : BitVec 32 := 0#32
  let v35 : BitVec 1 := Scalar.cmpi .ne v34 c0_i32_28
  v35

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x64x96x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x96x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S32x64x96x128 : Shape := ⟨4, ![32, 64, 96, 128]⟩
abbrev S_ : Shape := ⟨0, ![]⟩
abbrev S32x96x128 : Shape := ⟨3, ![32, 96, 128]⟩
abbrev S32x1x96x128 : Shape := ⟨4, ![32, 1, 96, 128]⟩
abbrev S32x64 : Shape := ⟨2, ![32, 64]⟩
abbrev S128 : Shape := ⟨1, ![128]⟩
abbrev S96 : Shape := ⟨1, ![96]⟩
abbrev S32x64x128 : Shape := ⟨3, ![32, 64, 128]⟩
abbrev S32x64x96 : Shape := ⟨3, ![32, 64, 96]⟩
abbrev S2048 : Shape := ⟨1, ![2048]⟩
abbrev S32x64x1 : Shape := ⟨3, ![32, 64, 1]⟩
abbrev S32x64x2 : Shape := ⟨3, ![32, 64, 2]⟩

abbrev nBuf : Space → Nat
  | .hbm => 66
  | .vmem => 0
  | .smem => 0
  | _ => 0

abbrev bufTy : (tb : Table) → Fin (tcTables nBuf tb) → BufTy
  | .hbm, ⟨0, _⟩ => ⟨S32x64x96x128, .f32⟩
  | .hbm, ⟨1, _⟩ => ⟨S_, .i32⟩
  | .hbm, ⟨2, _⟩ => ⟨S_, .i32⟩
  | .hbm, ⟨3, _⟩ => ⟨S_, .f32⟩
  | .hbm, ⟨4, _⟩ => ⟨S32x96x128, .f32⟩
  | .hbm, ⟨5, _⟩ => ⟨S_, .f32⟩
  | .hbm, ⟨6, _⟩ => ⟨S32x96x128, .f32⟩
  | .hbm, ⟨7, _⟩ => ⟨S32x96x128, .f32⟩
  | .hbm, ⟨8, _⟩ => ⟨S32x1x96x128, .f32⟩
  | .hbm, ⟨9, _⟩ => ⟨S32x64x96x128, .f32⟩
  | .hbm, ⟨10, _⟩ => ⟨S32x64x96x128, .f32⟩
  | .hbm, ⟨11, _⟩ => ⟨S32x64x96x128, .f32⟩
  | .hbm, ⟨12, _⟩ => ⟨S_, .f32⟩
  | .hbm, ⟨13, _⟩ => ⟨S32x96x128, .f32⟩
  | .hbm, ⟨14, _⟩ => ⟨S32x1x96x128, .f32⟩
  | .hbm, ⟨15, _⟩ => ⟨S32x64x96x128, .f32⟩
  | .hbm, ⟨16, _⟩ => ⟨S32x64x96x128, .f32⟩
  | .hbm, ⟨17, _⟩ => ⟨S_, .f32⟩
  | .hbm, ⟨18, _⟩ => ⟨S32x64, .f32⟩
  | .hbm, ⟨19, _⟩ => ⟨S128, .f32⟩
  | .hbm, ⟨20, _⟩ => ⟨S96, .f32⟩
  | .hbm, ⟨21, _⟩ => ⟨S_, .f32⟩
  | .hbm, ⟨22, _⟩ => ⟨S32x64x128, .f32⟩
  | .hbm, ⟨23, _⟩ => ⟨S32x64, .f32⟩
  | .hbm, ⟨24, _⟩ => ⟨S_, .f32⟩
  | .hbm, ⟨25, _⟩ => ⟨S32x64x96, .f32⟩
  | .hbm, ⟨26, _⟩ => ⟨S32x64, .f32⟩
  | .hbm, ⟨27, _⟩ => ⟨S2048, .f32⟩
  | .hbm, ⟨28, _⟩ => ⟨S_, .f32⟩
  | .hbm, ⟨29, _⟩ => ⟨S_, .f32⟩
  | .hbm, ⟨30, _⟩ => ⟨S2048, .f32⟩
  | .hbm, ⟨31, _⟩ => ⟨S32x64, .f32⟩
  | .hbm, ⟨32, _⟩ => ⟨S2048, .f32⟩
  | .hbm, ⟨33, _⟩ => ⟨S_, .f32⟩
  | .hbm, ⟨34, _⟩ => ⟨S_, .f32⟩
  | .hbm, ⟨35, _⟩ => ⟨S2048, .f32⟩
  | .hbm, ⟨36, _⟩ => ⟨S32x64, .f32⟩
  | .hbm, ⟨37, _⟩ => ⟨S32x64, .f32⟩
  | .hbm, ⟨38, _⟩ => ⟨S32x64, .f32⟩
  | .hbm, ⟨39, _⟩ => ⟨S32x64, .f32⟩
  | .hbm, ⟨40, _⟩ => ⟨S32x64, .f32⟩
  | .hbm, ⟨41, _⟩ => ⟨S_, .f32⟩
  | .hbm, ⟨42, _⟩ => ⟨S32x64, .f32⟩
  | .hbm, ⟨43, _⟩ => ⟨S32x64, .i1⟩
  | .hbm, ⟨44, _⟩ => ⟨S_, .f32⟩
  | .hbm, ⟨45, _⟩ => ⟨S32x64, .f32⟩
  | .hbm, ⟨46, _⟩ => ⟨S32x64, .i1⟩
  | .hbm, ⟨47, _⟩ => ⟨S32x64, .i1⟩
  | .hbm, ⟨48, _⟩ => ⟨S_, .f32⟩
  | .hbm, ⟨49, _⟩ => ⟨S_, .f32⟩
  | .hbm, ⟨50, _⟩ => ⟨S32x64, .f32⟩
  | .hbm, ⟨51, _⟩ => ⟨S32x64, .f32⟩
  | .hbm, ⟨52, _⟩ => ⟨S_, .f32⟩
  | .hbm, ⟨53, _⟩ => ⟨S32x64, .f32⟩
  | .hbm, ⟨54, _⟩ => ⟨S32x64, .i1⟩
  | .hbm, ⟨55, _⟩ => ⟨S_, .f32⟩
  | .hbm, ⟨56, _⟩ => ⟨S32x64, .f32⟩
  | .hbm, ⟨57, _⟩ => ⟨S32x64, .i1⟩
  | .hbm, ⟨58, _⟩ => ⟨S32x64, .i1⟩
  | .hbm, ⟨59, _⟩ => ⟨S_, .f32⟩
  | .hbm, ⟨60, _⟩ => ⟨S_, .f32⟩
  | .hbm, ⟨61, _⟩ => ⟨S32x64, .f32⟩
  | .hbm, ⟨62, _⟩ => ⟨S32x64, .f32⟩
  | .hbm, ⟨63, _⟩ => ⟨S32x64x1, .f32⟩
  | .hbm, ⟨64, _⟩ => ⟨S32x64x1, .f32⟩
  | .hbm, ⟨65, _⟩ => ⟨S32x64x2, .f32⟩
  | _, _ => ⟨S32x64x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_call0_cst : Ref sig .tc := ⟨.hbm, 28, rfl⟩
abbrev main_call0_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call1_call0_cst : Ref sig .tc := ⟨.hbm, 33, rfl⟩
abbrev main_call1_call0_v0 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_call4_v0 : Ref sig .tc := ⟨.hbm, 49, rfl⟩
abbrev main_call4_v1 : Ref sig .tc := ⟨.hbm, 50, rfl⟩
abbrev main_v33 : Ref sig .tc := ⟨.hbm, 51, rfl⟩
abbrev main_cst_8 : Ref sig .tc := ⟨.hbm, 52, rfl⟩
abbrev main_v34 : Ref sig .tc := ⟨.hbm, 53, rfl⟩
abbrev main_v35 : Ref sig .tc := ⟨.hbm, 54, rfl⟩
abbrev main_cst_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_10 : Ref sig .tc := ⟨.hbm, 59, rfl⟩
abbrev main_call5_v0 : Ref sig .tc := ⟨.hbm, 60, rfl⟩
abbrev main_call5_v1 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Proof.Loop.lean ====
/- The channel loop of the idealized kernel.

   Trip `k` reads channel `k` of the exponentials, scales it by the reciprocal of the channel sum, and stores three
   slabs: the probabilities of channel `k`, their sums over the rows, and their row-weighted sums over the rows. Here
   those slabs are named as lists of writes, newest first, and the loop is given the invariant that its three buffers
   hold the writes of the trips made so far. -/
module

public import proofs.«01_k».proof.Proof.Gen.KernelIdeal.Frame
public import proofs.«01_k».proof.Proof.Gen.KernelIdeal.Skeleton
public import Idealize.ShloMosaic.Lib.Exec
public import Idealize.ShloMosaic.Lib.Tactic
public import Idealize.ShloMosaic.Lib.WritesUnit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The writes of the first `n` trips, the newest first, when trip `k` makes the one write `p k`. -/
def piled {s : Shape} (p : Fin k0_t1_loop.trips → View.Piece (Elt F) s .f32) : ℕ → List (View.Piece (Elt F) s .f32)
  | 0 => []
  | n + 1 => if h : n < k0_t1_loop.trips then p ⟨n, h⟩ :: piled p n else piled p n

/-- One more trip puts its write in front. -/
theorem piled_succ {s : Shape} (p : Fin k0_t1_loop.trips → View.Piece (Elt F) s .f32) (k : Fin k0_t1_loop.trips) :
    piled p (k.val + 1) = p k :: piled p k.val := by
  rw [piled, dif_pos k.isLt]

/-- Every write of the pile is some trip's. -/
theorem mem_piled {s : Shape} (p : Fin k0_t1_loop.trips → View.Piece (Elt F) s .f32) :
    ∀ (n : ℕ) (q : View.Piece (Elt F) s .f32), q ∈ piled p n → ∃ k, q = p k
  | 0, q, h => absurd h (by simp [piled])
  | n + 1, q, h => by
    rw [piled] at h
    split at h
    · rcases List.mem_cons.mp h with rfl | h
      · exact ⟨_, rfl⟩
      · exact mem_piled p n q h
    · exact mem_piled p n q h

/-- The write of every trip made is in the pile. -/
theorem piled_mem {s : Shape} (p : Fin k0_t1_loop.trips → View.Piece (Elt F) s .f32) (k : Fin k0_t1_loop.trips) :
    ∀ n : ℕ, k.val < n → p k ∈ piled p n
  | 0, h => absurd h (Nat.not_lt_zero _)
  | n + 1, h => by
    rw [piled]
    by_cases hn : n < k0_t1_loop.trips
    · rw [dif_pos hn]
      by_cases hk : k.val = n
      · subst hk; exact List.mem_cons_self
      · exact List.mem_cons_of_mem _ (piled_mem p k n (by omega))
    · rw [dif_neg hn]
      exact piled_mem p k n (by have := k.isLt; omega)

/-- Trip `k`'s write of the probabilities: `v5` the exponentials the sums are taken of, `e k` the channel it reads. -/
def pieceQ (v5 : Vec F S2x64x96x128 .f32) (e : Fin k0_t1_loop.trips → Vec F S2x1x96x128 .f32) (k : Fin k0_t1_loop.trips) :
    View.Piece (Elt F) S2x64x96x128 .f32 :=
  ⟨Rect.unit (s := S2x64x96x128) (k0_off1 k) S2x1x96x128.size (k0_off1_inb k), k0_pay12 v5 (e k)⟩

/-- Trip `k`'s write of the column sums of the probabilities. -/
def pieceP (v5 : Vec F S2x64x96x128 .f32) (e : Fin k0_t1_loop.trips → Vec F S2x1x96x128 .f32) (k : Fin k0_t1_loop.trips) :
    View.Piece (Elt F) S2x64x128 .f32 :=
  ⟨Rect.unit (s := S2x64x128) (k0_off2 k) S2x1x128.size (k0_off2_inb k), k0_pay13 v5 (e k)⟩

/-- Trip `k`'s write of the row-weighted column sums. -/
def pieceW (v5 : Vec F S2x64x96x128 .f32) (e : Fin k0_t1_loop.trips → Vec F S2x1x96x128 .f32) (k : Fin k0_t1_loop.trips) :
    View.Piece (Elt F) S2x64x128 .f32 :=
  ⟨Rect.unit (s := S2x64x128) (k0_off2 k) S2x1x128.size (k0_off2_inb k), k0_pay14 v5 (e k)⟩

/-- Channel `k` of the exponentials, as a trip loads it from the buffer at contents `X`. -/
def chan {κ : Kind} {sp : Space} (v : View sig κ sp S2x64x96x128 .f32) (X : BufTy.Contents (Elt F) v.ty)
    (k : Fin k0_t1_loop.trips) : Vec F S2x1x96x128 .f32 :=
  v.readAt (Elt F) (Rect.unit (s := S2x64x96x128) (k0_off1 k) S2x1x96x128.size (k0_off1_inb k)).toLoadRect X

/-- The loop's invariant before trip `k`: the exponentials as they were, and the three buffers at the writes of the
    trips before `k`, over whatever they held when the loop began. -/
abbrev loopInv (c : Dev nD) (arg6 : Memref sig .tc .vmem S2x64x96x128 .f32) (arg2 : Memref sig .tc .vmem S2x64x96x128 .f32)
    (arg7 : Memref sig .tc .vmem S2x64x128 .f32) (arg8 : Memref sig .tc .vmem S2x64x128 .f32)
    (v5 : Vec F S2x64x96x128 .f32) (X : BufTy.Contents (Elt F) arg6.view.ty) (G2 : BufTy.Contents (Elt F) arg2.view.ty)
    (G7 : BufTy.Contents (Elt F) arg7.view.ty) (G8 : BufTy.Contents (Elt F) arg8.view.ty) (k : ℕ) (_u : PUnit) : sProp 𝕄 :=
  iprop((arg6.view.loc (c : Thread nD τ) ↦[arg6.view.set]{fullShare} X)
    ∗ (∃ f, (arg2.view.loc (c : Thread nD τ) ↦[arg2.view.set]{fullShare} f) ∗ ⌜f = arg2.view.writes (Elt F) G2 (piled (pieceQ v5 (chan arg6.view X)) k)⌝)
    ∗ (∃ f, (arg7.view.loc (c : Thread nD τ) ↦[arg7.view.set]{fullShare} f) ∗ ⌜f = arg7.view.writes (Elt F) G7 (piled (pieceP v5 (chan arg6.view X)) k)⌝)
    ∗ (∃ f, (arg8.view.loc (c : Thread nD τ) ↦[arg8.view.set]{fullShare} f) ∗ ⌜f = arg8.view.writes (Elt F) G8 (piled (pieceW v5 (chan arg6.view X)) k)⌝))

set_option maxHeartbeats 4000000 in
/-- One trip: from the four buffers it touches, the three it writes at any contents, to the same with the trip's write
    added to each. -/
theorem trip (𝒱 : Variants) (c : Dev nD) (bd : Option 𝒱.V) (E : Set ℕ) (i : grid0.Coords) (arg1 : Memref sig .tc .vmem S2x64x96x128 .f32) (harg1 : arg1.IsWhole) (arg2 : Memref sig .tc .vmem S2x64x96x128 .f32) (harg2 : arg2.IsWhole) (arg3 : Memref sig .tc .vmem S32x64x2 .f32) (harg3 : arg3.IsWhole) (arg4 : Memref sig .tc .vmem S32x64 .f32) (harg4 : arg4.IsWhole) (arg5 : Memref sig .tc .vmem S32x3x64 .f32) (harg5 : arg5.IsWhole) (arg6 : Memref sig .tc .vmem S2x64x96x128 .f32) (harg6 : arg6.IsWhole) (arg7 : Memref sig .tc .vmem S2x64x128 .f32) (harg7 : arg7.IsWhole) (arg8 : Memref sig .tc .vmem S2x64x128 .f32) (harg8 : arg8.IsWhole)
    (v5 : Vec F S2x64x96x128 .f32) (X : BufTy.Contents (Elt F) arg6.view.ty) (k : Fin k0_t1_loop.trips)
    (f2 : BufTy.Contents (Elt F) arg2.view.ty) (f7 : BufTy.Contents (Elt F) arg7.view.ty) (f8 : BufTy.Contents (Elt F) arg8.view.ty) :
    (iprop((arg6.view.loc (c : Thread nD τ) ↦[arg6.view.set]{fullShare} X) ∗ (arg2.view.loc (c : Thread nD τ) ↦[arg2.view.set]{fullShare} f2) ∗ (arg7.view.loc (c : Thread nD τ) ↦[arg7.view.set]{fullShare} f7) ∗ (arg8.view.loc (c : Thread nD τ) ↦[arg8.view.set]{fullShare} f8)) : sProp 𝕄)
      ⊢ wp Idealize.ShloMosaic.frame (wpE (defs₀ (F := F)) 𝒱 (c : Thread nD τ) bd) E (k0_t1_body (F := F) i arg1 harg1 arg2 harg2 arg3 harg3 arg4 harg4 arg5 harg5 arg6 harg6 arg7 harg7 arg8 harg8 v5 k ())
          (fun _ => iprop((arg6.view.loc (c : Thread nD τ) ↦[arg6.view.set]{fullShare} X)
            ∗ (arg2.view.loc (c : Thread nD τ) ↦[arg2.view.set]{fullShare} (arg2.view.writes (Elt F) f2 [pieceQ v5 (chan arg6.view X) k]))
            ∗ (arg7.view.loc (c : Thread nD τ) ↦[arg7.view.set]{fullShare} (arg7.view.writes (Elt F) f7 [pieceP v5 (chan arg6.view X) k]))
            ∗ (arg8.view.loc (c : Thread nD τ) ↦[arg8.view.set]{fullShare} (arg8.view.writes (Elt F) f8 [pieceW v5 (chan arg6.view X) k])))) := by
  have hk : k.val < 64 := Nat.lt_of_lt_of_le k.isLt k0_t1_abs.2.1
  unfold k0_t1_body
  iintro ⟨H6, H2, H7, H8⟩
  sl_exec
  sl_step
  isplitl [H6]; · iexact H6
  isplitl [H2]; · iexact H2
  isplitl [H7]; · iexact H7
  iexact H8

set_option warn.classDefReducibility false in
/-- The loop goes through by its invariant. -/
@[sl_loop] def chanLoop (𝒱 : Variants) (c : Dev nD) (bd : Option 𝒱.V) (E : Set ℕ) (i : grid0.Coords) (arg1 : Memref sig .tc .vmem S2x64x96x128 .f32) (harg1 : arg1.IsWhole) (arg2 : Memref sig .tc .vmem S2x64x96x128 .f32) (harg2 : arg2.IsWhole) (arg3 : Memref sig .tc .vmem S32x64x2 .f32) (harg3 : arg3.IsWhole) (arg4 : Memref sig .tc .vmem S32x64 .f32) (harg4 : arg4.IsWhole) (arg5 : Memref sig .tc .vmem S32x3x64 .f32) (harg5 : arg5.IsWhole) (arg6 : Memref sig .tc .vmem S2x64x96x128 .f32) (harg6 : arg6.IsWhole) (arg7 : Memref sig .tc .vmem S2x64x128 .f32) (harg7 : arg7.IsWhole) (arg8 : Memref sig .tc .vmem S2x64x128 .f32) (harg8 : arg8.IsWhole)
    (v5 : Vec F S2x64x96x128 .f32) (X : BufTy.Contents (Elt F) arg6.view.ty) (G2 : BufTy.Contents (Elt F) arg2.view.ty) (G7 : BufTy.Contents (Elt F) arg7.view.ty) (G8 : BufTy.Contents (Elt F) arg8.view.ty) :
    Idealize.ShloMosaic.LoopInv (M := 𝕄) Idealize.ShloMosaic.frame (wpE (defs₀ (F := F)) 𝒱 (c : Thread nD τ) bd) E
      k0_t1_loop.lb k0_t1_loop.ub k0_t1_loop.st k0_t1_ok () (k0_t1_body (F := F) i arg1 harg1 arg2 harg2 arg3 harg3 arg4 harg4 arg5 harg5 arg6 harg6 arg7 harg7 arg8 harg8 v5) where
  inv := loopInv c arg6 arg2 arg7 arg8 v5 X G2 G7 G8
  step k acc := by
    iintro ⟨H6, ⟨%f2, H2, %h2⟩, ⟨%f7, H7, %h7⟩, ⟨%f8, H8, %h8⟩⟩
    iapply (wp_wand_r Idealize.ShloMosaic.frame (wpE (defs₀ (F := F)) 𝒱 (c : Thread nD τ) bd) E)
    isplitl [H6 H2 H7 H8]
    · iapply (trip (F := F) 𝒱 c bd E i arg1 harg1 arg2 harg2 arg3 harg3 arg4 harg4 arg5 harg5 arg6 harg6 arg7 harg7 arg8 harg8 v5 X k f2 f7 f8)
      isplitl [H6]; · iexact H6
      isplitl [H2]; · iexact H2
      isplitl [H7]; · iexact H7
      iexact H8
    · iintro %_ ⟨H6, H2, H7, H8⟩
      isplitl [H6]; · iexact H6
      isplitl [H2]
      · iexists _; isplitl [H2]; · iexact H2
        ipureintro; rw [h2, piled_succ _ k]; rfl
      isplitl [H7]
      · iexists _; isplitl [H7]; · iexact H7
        ipureintro; rw [h7, piled_succ _ k]; rfl
      iexists _; isplitl [H8]; · iexact H8
      ipureintro; rw [h8, piled_succ _ k]; rfl

end Cert.KernelIdeal.Hand

end
-- ==== Proof.Points.lean ====
/- The points of the grid and the buffers the body is called with.

   Sixteen points; the body's branch is taken at the last one only. The pipeline's staging buffers of each window at a
   point, and the kernel's four scratch buffers, are named here. -/
module

public import proofs.«01_k».proof.Proof.Loop
public import proofs.«01_k».proof.Proof.Gen.KernelIdeal.Points
public import Idealize.ShloMosaic.Lib.Pipeline.FrameBody
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid coordinate of a point is the point. -/
theorem coord_val (t : Fin cfg0.N) : (grid0.coords t 0).val = t.val := by
  have ht : t.val < 16 := Nat.lt_of_lt_of_eq t.isLt N_0
  have e0 : (grid0.coords t 0).val = t.val / 1 % 16 := Pipeline.Grid.coords_val t 0 (by decide) rfl
  omega

/-- The body's branch is taken at the last point and at no other. -/
theorem last_iff (t : Fin cfg0.N) : k0_cond1 (grid0.coords t) = 1#1 ↔ t.val = 15 := by
  have ht : t.val < 16 := Nat.lt_of_lt_of_eq t.isLt N_0
  have e0 := coord_val t
  simp only [k0_cond1, e0]
  word_cmp

/-- The staging buffer window 0 (the input block) has at a point, and that it is whole; the same of the other windows:
    1 the probabilities' block, 2 the keypoints, 3 the masses. -/
abbrev stg0 (t : Fin cfg0.N) : Memref sig .tc .vmem S2x64x96x128 .f32 := win0_0.stage (cfg0.slots t 0)
/-- It is a whole buffer. -/
abbrev whole0 (t : Fin cfg0.N) : (stg0 t).IsWhole := hstage0_0 ((cfg0.slots t 0).cast nbuf0_0)
/-- The probabilities' staging buffer at a point. -/
abbrev stg1 (t : Fin cfg0.N) : Memref sig .tc .vmem S2x64x96x128 .f32 := win0_1.stage (cfg0.slots t 1)
/-- It is a whole buffer. -/
abbrev whole1 (t : Fin cfg0.N) : (stg1 t).IsWhole := hstage0_1 ((cfg0.slots t 1).cast nbuf0_1)
/-- The keypoints' staging buffer at a point. -/
abbrev stg2 (t : Fin cfg0.N) : Memref sig .tc .vmem S32x64x2 .f32 := win0_2.stage (cfg0.slots t 2)
/-- It is a whole buffer. -/
abbrev whole2 (t : Fin cfg0.N) : (stg2 t).IsWhole := hstage0_2 ((cfg0.slots t 2).cast nbuf0_2)
/-- The masses' staging buffer at a point. -/
abbrev stg3 (t : Fin cfg0.N) : Memref sig .tc .vmem S32x64 .f32 := win0_3.stage (cfg0.slots t 3)
/-- It is a whole buffer. -/
abbrev whole3 (t : Fin cfg0.N) : (stg3 t).IsWhole := hstage0_3 ((cfg0.slots t 3).cast nbuf0_3)

/-- The scratch buffers: the three statistics of every batch, the exponentials, the column sums, the row-weighted column
    sums. -/
abbrev scrStat : Memref sig .tc .vmem S32x3x64 .f32 := Memref.whole cc0_scratch0
/-- The scratch buffer of the exponentials. -/
abbrev scrExp : Memref sig .tc .vmem S2x64x96x128 .f32 := Memref.whole cc0_scratch1
/-- The scratch buffer of the column sums. -/
abbrev scrCol : Memref sig .tc .vmem S2x64x128 .f32 := Memref.whole cc0_scratch2
/-- The scratch buffer of the row-weighted sums. -/
abbrev scrRow : Memref sig .tc .vmem S2x64x128 .f32 := Memref.whole cc0_scratch3

/-- The region's own buffers and generator, at whatever they hold. -/
theorem own_eq (c : Dev nD) :
    (Pipeline.ΦA spec0 c : sProp 𝕄)
      = iprop(iprop((∃ d, owns (c : Thread nD τ) scrStat fullShare d) ∗ (∃ d, owns (c : Thread nD τ) scrExp fullShare d) ∗ (∃ d, owns (c : Thread nD τ) scrCol fullShare d) ∗ (∃ d, owns (c : Thread nD τ) scrRow fullShare d)) ∗ (∃ r, prngReg c r)) := by
  unfold Pipeline.ΦA; rw [scopedRest0_eq]; simp only [scrStat, scrExp, scrCol, scrRow, owns_whole]; rfl

end Cert.KernelIdeal.Hand

end
-- ==== Proof.Block.lean ====
/- What one point computes, as functions of the block of two batches it is given.

   The exponentials; the probabilities, whole; the column sums and row-weighted column sums of the probabilities; the
   three rows of statistics. The buffers the channel loop fills slab by slab are read here as whole arrays. -/
module

public import proofs.«01_k».proof.Proof.Loop
public import Idealize.ShloMosaic.Lib.ValueIdxCore
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- The loop makes 64 trips, one for each channel. -/
theorem trips_eq : k0_t1_loop.trips = 64 := by decide +kernel

/-- The channel of a trip. -/
def chOf (k : Fin k0_t1_loop.trips) : Fin 64 := ⟨k.val, trips_eq ▸ k.isLt⟩
/-- The trip of a channel. -/
def tripOf (k : Fin 64) : Fin k0_t1_loop.trips := ⟨k.val, trips_eq.symm ▸ k.isLt⟩

/-- Channel `k` of a block, as an array with the channel axis kept. -/
def chanOf (e : Vec F S2x64x96x128 .f32) (k : Fin 64) : Vec F S2x1x96x128 .f32 :=
  fun j => e (ix4 (n0 := 2) (n1 := 64) (n2 := 96) (n3 := 128) (j 0) k (j 2) (j 3))

/-- The probabilities of a block, from its exponentials. -/
def probs (e : Vec F S2x64x96x128 .f32) : Vec F S2x64x96x128 .f32 :=
  fun y => k0_pay12 e (chanOf e (y 1)) (ix4 (n0 := 2) (n1 := 1) (n2 := 96) (n3 := 128) (y 0) 0 (y 2) (y 3))

/-- The column sums of the probabilities, from the exponentials. -/
def colSums (e : Vec F S2x64x96x128 .f32) : Vec F S2x64x128 .f32 :=
  fun y => k0_pay13 e (chanOf e (y 1)) (ix3 (n0 := 2) (n1 := 1) (n2 := 128) (y 0) 0 (y 2))

/-- The row-weighted column sums of the probabilities, from the exponentials. -/
def rowSums (e : Vec F S2x64x96x128 .f32) : Vec F S2x64x128 .f32 :=
  fun y => k0_pay14 e (chanOf e (y 1)) (ix3 (n0 := 2) (n1 := 1) (n2 := 128) (y 0) 0 (y 2))

/-- The three rows of statistics of a block: masses, column moments, row moments. -/
def statRow (e : Vec F S2x64x96x128 .f32) (j : Fin 3) : Vec F S2x1x64 .f32 :=
  match j with
  | 0 => k0_pay15 (colSums e)
  | 1 => k0_pay1 (k0_pay16 (colSums e))
  | 2 => k0_pay2 (rowSums e)

/-- What trip `k` loads from a buffer that reads `e` is channel `k` of `e`. -/
theorem chan_eq {κ : Kind} {sp : Space} (v : View sig κ sp S2x64x96x128 .f32) (X : BufTy.Contents (Elt F) v.ty)
    (e : Vec F S2x64x96x128 .f32) (hX : v.read (Elt F) X = e) (k : Fin k0_t1_loop.trips) :
    chan v X k = chanOf e (chOf k) := by
  subst hX
  have ho := k0_off1_eq k
  funext j
  refine congrArg (v.read (Elt F) X) (funext fun a => Fin.ext ?_)
  show k0_off1 k a + 1 * (j a).val = _
  rw [ho]
  fin_cases a
  · show 0 + 1 * (j 0).val = (j 0).val; omega
  · have h1 : (j 1).val < 1 := (j 1).isLt
    show k.val + 1 * (j 1).val = k.val; omega
  · show 0 + 1 * (j 2).val = (j 2).val; omega
  · show 0 + 1 * (j 3).val = (j 3).val; omega

/-- The probabilities' buffer, after all trips, whatever it held. -/
theorem read_probs {κ : Kind} {sp : Space} (v : View sig κ sp S2x64x96x128 .f32) (f : BufTy.Contents (Elt F) v.ty)
    (e : Vec F S2x64x96x128 .f32) (ch : Fin k0_t1_loop.trips → Vec F S2x1x96x128 .f32)
    (hch : ∀ k, ch k = chanOf e (chOf k)) (n : ℕ) (hn : n = k0_t1_loop.trips) :
    v.read (Elt F) (v.writes (Elt F) f (piled (pieceQ e ch) n)) = probs e := by
  funext y
  refine View.read_writes_apply_of_pieces _ _ (probs e) _ ?_ y ?_
  · intro p hp
    obtain ⟨k, rfl⟩ := mem_piled _ _ _ hp
    intro x
    have o0 : k0_off1 k 0 = 0 := congrFun (k0_off1_eq k) 0
    have o1 : k0_off1 k 1 = k.val := congrFun (k0_off1_eq k) 1
    have o2 : k0_off1 k 2 = 0 := congrFun (k0_off1_eq k) 2
    have o3 : k0_off1 k 3 = 0 := congrFun (k0_off1_eq k) 3
    have x1 : (x 1).val < 1 := (x 1).isLt
    have h0 : (pieceQ e ch k).1.emb x 0 = x 0 := Fin.ext (by show k0_off1 k 0 + 1 * (x 0).val = (x 0).val; rw [o0]; omega)
    have h1 : (pieceQ e ch k).1.emb x 1 = chOf k := Fin.ext (by show k0_off1 k 1 + 1 * (x 1).val = k.val; rw [o1]; omega)
    have h2 : (pieceQ e ch k).1.emb x 2 = x 2 := Fin.ext (by show k0_off1 k 2 + 1 * (x 2).val = (x 2).val; rw [o2]; omega)
    have h3 : (pieceQ e ch k).1.emb x 3 = x 3 := Fin.ext (by show k0_off1 k 3 + 1 * (x 3).val = (x 3).val; rw [o3]; omega)
    unfold probs
    rw [h0, h1, h2, h3, ← hch]
    show k0_pay12 e (ch k) x = _
    refine congrArg _ (funext fun a => ?_)
    fin_cases a
    · rfl
    · exact Fin.ext (by show (x 1).val = 0; omega)
    · rfl
    · rfl
  · refine ⟨pieceQ e ch (tripOf (y 1)), piled_mem _ _ _ (by rw [hn]; exact (tripOf (y 1)).isLt), ?_⟩
    refine (Rect.mem_set_unit (inb := k0_off1_inb (tripOf (y 1)))).mpr fun a => ?_
    rw [k0_off1_eq]
    fin_cases a
    · exact ⟨Nat.zero_le _, by show (y 0).val < 0 + 2; have : (y 0).val < 2 := (y 0).isLt; omega⟩
    · exact ⟨Nat.le_refl _, by show (y 1).val < (y 1).val + 1; omega⟩
    · exact ⟨Nat.zero_le _, by show (y 2).val < 0 + 96; have : (y 2).val < 96 := (y 2).isLt; omega⟩
    · exact ⟨Nat.zero_le _, by show (y 3).val < 0 + 128; have : (y 3).val < 128 := (y 3).isLt; omega⟩

/-- A buffer filled slab by slab along its middle axis, one slab a trip: after all trips it reads, at every index, the
    slab of the index's channel. -/
theorem read_slabs {κ : Kind} {sp : Space} (v : View sig κ sp S2x64x128 .f32) (f : BufTy.Contents (Elt F) v.ty)
    (p : Fin k0_t1_loop.trips → View.Piece (Elt F) S2x64x128 .f32) (w : Fin 64 → Vec F S2x1x128 .f32)
    (hp : ∀ k, p k = ⟨Rect.unit (s := S2x64x128) (k0_off2 k) S2x1x128.size (k0_off2_inb k), w (chOf k)⟩)
    (n : ℕ) (hn : n = k0_t1_loop.trips) :
    v.read (Elt F) (v.writes (Elt F) f (piled p n))
      = fun y => w (y 1) (ix3 (n0 := 2) (n1 := 1) (n2 := 128) (y 0) 0 (y 2)) := by
  funext y
  refine View.read_writes_apply_of_pieces _ _ (fun y : S2x64x128.Idx => w (y 1) (ix3 (n0 := 2) (n1 := 1) (n2 := 128) (y 0) 0 (y 2))) _ ?_ y ?_
  · intro q hq
    obtain ⟨k, rfl⟩ := mem_piled _ _ _ hq
    rw [hp]
    intro x
    have o0 : k0_off2 k 0 = 0 := congrFun (k0_off2_eq k) 0
    have o1 : k0_off2 k 1 = k.val := congrFun (k0_off2_eq k) 1
    have o2 : k0_off2 k 2 = 0 := congrFun (k0_off2_eq k) 2
    have x1 : (x 1).val < 1 := (x 1).isLt
    have h0 : (Rect.unit (s := S2x64x128) (k0_off2 k) S2x1x128.size (k0_off2_inb k)).emb x 0 = x 0 := Fin.ext (by show k0_off2 k 0 + 1 * (x 0).val = (x 0).val; rw [o0]; omega)
    have h1 : (Rect.unit (s := S2x64x128) (k0_off2 k) S2x1x128.size (k0_off2_inb k)).emb x 1 = chOf k := Fin.ext (by show k0_off2 k 1 + 1 * (x 1).val = k.val; rw [o1]; omega)
    have h2 : (Rect.unit (s := S2x64x128) (k0_off2 k) S2x1x128.size (k0_off2_inb k)).emb x 2 = x 2 := Fin.ext (by show k0_off2 k 2 + 1 * (x 2).val = (x 2).val; rw [o2]; omega)
    show w (chOf k) x = w ((Rect.unit (s := S2x64x128) (k0_off2 k) S2x1x128.size (k0_off2_inb k)).emb x 1) _
    rw [h1]
    refine congrArg _ (funext fun a => ?_)
    fin_cases a
    · exact h0.symm
    · exact Fin.ext (by show (x 1).val = 0; omega)
    · exact h2.symm
  · refine ⟨p (tripOf (y 1)), piled_mem _ _ _ (by rw [hn]; exact (tripOf (y 1)).isLt), ?_⟩
    rw [hp]
    refine (Rect.mem_set_unit (inb := k0_off2_inb (tripOf (y 1)))).mpr fun a => ?_
    rw [k0_off2_eq]
    fin_cases a
    · exact ⟨Nat.zero_le _, by show (y 0).val < 0 + 2; have : (y 0).val < 2 := (y 0).isLt; omega⟩
    · exact ⟨Nat.le_refl _, by show (y 1).val < (y 1).val + 1; omega⟩
    · exact ⟨Nat.zero_le _, by show (y 2).val < 0 + 128; have : (y 2).val < 128 := (y 2).isLt; omega⟩

/-- The column sums' buffer after all trips. -/
theorem read_colSums {κ : Kind} {sp : Space} (v : View sig κ sp S2x64x128 .f32) (f : BufTy.Contents (Elt F) v.ty)
    (e : Vec F S2x64x96x128 .f32) (ch : Fin k0_t1_loop.trips → Vec F S2x1x96x128 .f32)
    (hch : ∀ k, ch k = chanOf e (chOf k)) (n : ℕ) (hn : n = k0_t1_loop.trips) :
    v.read (Elt F) (v.writes (Elt F) f (piled (pieceP e ch) n)) = colSums e :=
  read_slabs v f _ (fun k => k0_pay13 e (chanOf e k)) (fun k => by rw [pieceP, hch]) n hn

/-- The row-weighted column sums' buffer after all trips. -/
theorem read_rowSums {κ : Kind} {sp : Space} (v : View sig κ sp S2x64x128 .f32) (f : BufTy.Contents (Elt F) v.ty)
    (e : Vec F S2x64x96x128 .f32) (ch : Fin k0_t1_loop.trips → Vec F S2x1x96x128 .f32)
    (hch : ∀ k, ch k = chanOf e (chOf k)) (n : ℕ) (hn : n = k0_t1_loop.trips) :
    v.read (Elt F) (v.writes (Elt F) f (piled (pieceW e ch) n)) = rowSums e :=
  read_slabs v f _ (fun k => k0_pay14 e (chanOf e k)) (fun k => by rw [pieceW, hch]) n hn

end Cert.KernelIdeal.Hand

end
-- ==== Proof.Stats.lean ====
/- The buffer of statistics, and what is read off it at the end.

   Each point replaces the two batches' rows it owns; the last point reads the three rows of all batches and computes the
   keypoints and the masses from them. -/
module

public import proofs.«01_k».proof.Proof.Block

@[expose] public section

set_option maxRecDepth 16384

noncomputable section

namespace Cert.KernelIdeal.Hand

open Cert.KernelIdeal Cert.KernelIdeal.Gen
open Idealize.ShloMosaic Idealize.ShloMosaic.ValueIdx

variable {F : FTy → Type} [FloatOps F]

/-- The statistics' buffer after point `t`, given the exponentials of the point's block and the buffer before. -/
def statAfter (t : ℕ) (e : Vec F S2x64x96x128 .f32) (d : Vec F S32x3x64 .f32) : Vec F S32x3x64 .f32 :=
  fun y => if h : 2 * t ≤ (y 0).val ∧ (y 0).val < 2 * t + 2 then
      statRow e (y 1) (ix3 (n0 := 2) (n1 := 1) (n2 := 64) ⟨(y 0).val - 2 * t, by omega⟩ 0 (y 2))
    else d y

/-- Row `j` of the statistics of every batch. -/
def rowOf (d : Vec F S32x3x64 .f32) (j : Fin 3) : Vec F S32x1x64 .f32 :=
  fun x => d (ix3 (n0 := 32) (n1 := 3) (n2 := 64) (x 0) j (x 2))

/-- The masses, from the statistics of every batch. -/
def massOf (d : Vec F S32x3x64 .f32) : Vec F S32x64 .f32 := k0_pay7 (rowOf d 0)

/-- The keypoints, from the statistics of every batch. -/
def keyOf (d : Vec F S32x3x64 .f32) : Vec F S32x64x2 .f32 :=
  fun y => if (y 2).val = 0 then k0_pay3 (k0_pay9 (rowOf d 0) (rowOf d 1)) (ix3 (n0 := 32) (n1 := 64) (n2 := 1) (y 0) (y 1) 0)
    else k0_pay4 (massOf d) (k0_pay8 (rowOf d 2)) (ix3 (n0 := 32) (n1 := 64) (n2 := 1) (y 0) (y 1) 0)

/-- The statistics' buffer, read after the point's three stores. -/
theorem read_stats {κ : Kind} {sp : Space} (v : View sig κ sp S32x3x64 .f32) (f : BufTy.Contents (Elt F) v.ty)
    (i : grid0.Coords) (e : Vec F S2x64x96x128 .f32) (d : Vec F S32x3x64 .f32) (hd : v.read (Elt F) f = d)
    (w3 w4 w5 : Vec F S2x1x64 .f32) (h3 : w3 = statRow e 0) (h4 : w4 = statRow e 1) (h5 : w5 = statRow e 2) :
    v.read (Elt F) (v.writes (Elt F) f
        [⟨Rect.unit (s := S32x3x64) (k0_off5 i) S2x1x64.size (k0_off5_inb i), w5⟩,
          ⟨Rect.unit (s := S32x3x64) (k0_off4 i) S2x1x64.size (k0_off4_inb i), w4⟩,
          ⟨Rect.unit (s := S32x3x64) (k0_off3 i) S2x1x64.size (k0_off3_inb i), w3⟩])
      = statAfter (i 0).val e d := by
  subst h3 h4 h5 hd
  funext y
  unfold statAfter
  have hy2 : (y 2).val < 64 := (y 2).isLt
  by_cases h : 2 * (i 0).val ≤ (y 0).val ∧ (y 0).val < 2 * (i 0).val + 2
  · rw [dif_pos h]
    have hx : ∀ (j : ℕ), (y 1).val = j → ∀ a, (y a).val = (![2 * (i 0).val, j, 0] : Fin 3 → ℕ) a
        + ((ix3 (n0 := 2) (n1 := 1) (n2 := 64) ⟨(y 0).val - 2 * (i 0).val, by omega⟩ 0 (y 2)) a).val := by
      intro j hj a
      fin_cases a
      · show (y 0).val = 2 * (i 0).val + ((y 0).val - 2 * (i 0).val); omega
      · show (y 1).val = j + 0; omega
      · show (y 2).val = 0 + (y 2).val; omega
    have hy1 : (y 1).val < 3 := (y 1).isLt
    rcases (by omega : (y 1).val = 2 ∨ (y 1).val = 1 ∨ (y 1).val = 0) with h1 | h1 | h1
    · rw [View.read_writes_cons_unit_of_mem v f (k0_off5_inb i) _ _ y _ (k0_off5_eq i) (hx 2 h1), show y 1 = (2 : Fin 3) from Fin.ext h1]
    · rw [View.read_writes_cons_unit_of_not_mem v f (k0_off5_inb i) _ _ y (k0_off5_eq i) (1 : Fin 3) (by show (y 1).val < 2 ∨ 2 + 1 ≤ (y 1).val; omega),
        View.read_writes_cons_unit_of_mem v f (k0_off4_inb i) _ _ y _ (k0_off4_eq i) (hx 1 h1), show y 1 = (1 : Fin 3) from Fin.ext h1]
    · rw [View.read_writes_cons_unit_of_not_mem v f (k0_off5_inb i) _ _ y (k0_off5_eq i) (1 : Fin 3) (by show (y 1).val < 2 ∨ 2 + 1 ≤ (y 1).val; omega),
        View.read_writes_cons_unit_of_not_mem v f (k0_off4_inb i) _ _ y (k0_off4_eq i) (1 : Fin 3) (by show (y 1).val < 1 ∨ 1 + 1 ≤ (y 1).val; omega),
        View.read_writes_cons_unit_of_mem v f (k0_off3_inb i) _ _ y _ (k0_off3_eq i) (hx 0 h1), show y 1 = (0 : Fin 3) from Fin.ext h1]
  · rw [dif_neg h]
    have hm : (y 0).val < 2 * (i 0).val ∨ 2 * (i 0).val + 2 ≤ (y 0).val := by omega
    rw [View.read_writes_cons_unit_of_not_mem v f (k0_off5_inb i) _ _ y (k0_off5_eq i) (0 : Fin 3) hm,
      View.read_writes_cons_unit_of_not_mem v f (k0_off4_inb i) _ _ y (k0_off4_eq i) (0 : Fin 3) hm,
      View.read_writes_cons_unit_of_not_mem v f (k0_off3_inb i) _ _ y (k0_off3_eq i) (0 : Fin 3) hm, View.writes_nil]

/-- A load of row `j` of every batch from a buffer that reads `d`. -/
theorem load_row {κ : Kind} {sp : Space} (v : View sig κ sp S32x3x64 .f32) (f : BufTy.Contents (Elt F) v.ty)
    (d : Vec F S32x3x64 .f32) (hd : v.read (Elt F) f = d) (j : Fin 3)
    (inb : ∀ a, (![0, j.val, 0] : Fin 3 → ℕ) a + S32x1x64.size a ≤ S32x3x64.size a) :
    v.readAt (Elt F) (Rect.unit (s := S32x3x64) ![0, j.val, 0] S32x1x64.size inb).toLoadRect f = rowOf d j := by
  subst hd
  funext x
  refine congrArg (v.read (Elt F) f) (funext fun a => Fin.ext ?_)
  have x1 : (x 1).val < 1 := (x 1).isLt
  show (![0, j.val, 0] : Fin 3 → ℕ) a + 1 * (x a).val = _
  fin_cases a
  · show 0 + 1 * (x 0).val = (x 0).val; omega
  · show j.val + 1 * (x 1).val = j.val; omega
  · show 0 + 1 * (x 2).val = (x 2).val; omega

/-- The keypoints' buffer, read after its two stores. -/
theorem read_keys {κ : Kind} {sp : Space} (v : View sig κ sp S32x64x2 .f32) (f : BufTy.Contents (Elt F) v.ty)
    (d : Vec F S32x3x64 .f32) (w0 w1 : Vec F S32x64x1 .f32)
    (h0 : w0 = k0_pay3 (k0_pay9 (rowOf d 0) (rowOf d 1))) (h1 : w1 = k0_pay4 (massOf d) (k0_pay8 (rowOf d 2))) :
    v.read (Elt F) (v.writes (Elt F) f
        [⟨Rect.unit (s := S32x64x2) ![0, 0, 1] S32x64x1.size inb_S32x64x2_S32x64x1_0_0_1, w1⟩,
          ⟨Rect.unit (s := S32x64x2) ![0, 0, 0] S32x64x1.size inb_S32x64x2_S32x64x1_0_0_0, w0⟩])
      = keyOf d := by
  subst h0 h1
  funext y
  unfold keyOf
  have hx : ∀ j : ℕ, (y 2).val = j → ∀ a, (y a).val = (![0, 0, j] : Fin 3 → ℕ) a
      + ((ix3 (n0 := 32) (n1 := 64) (n2 := 1) (y 0) (y 1) 0) a).val := by
    intro j hj a
    fin_cases a
    · show (y 0).val = 0 + (y 0).val; omega
    · show (y 1).val = 0 + (y 1).val; omega
    · show (y 2).val = j + 0; omega
  have hy2 : (y 2).val < 2 := (y 2).isLt
  by_cases h : (y 2).val = 0
  · rw [if_pos h,
      View.read_writes_cons_unit_of_not_mem v f inb_S32x64x2_S32x64x1_0_0_1 _ _ y rfl (2 : Fin 3) (by show (y 2).val < 1 ∨ 1 + 1 ≤ (y 2).val; omega),
      View.read_writes_cons_unit_of_mem v f inb_S32x64x2_S32x64x1_0_0_0 _ _ y _ rfl (hx 0 h)]
  · rw [if_neg h, View.read_writes_cons_unit_of_mem v f inb_S32x64x2_S32x64x1_0_0_1 _ _ y _ rfl (hx 1 (by omega))]

end Cert.KernelIdeal.Hand

end
-- ==== Proof.Run.lean ====
/- The body, run once.

   At a point that is not the last: from the input block `x` and the statistics so far, the probabilities of the block and
   the statistics with the block's rows replaced. At the last point also the keypoints and the masses. -/
module

public import proofs.«01_k».proof.Proof.Points
public import proofs.«01_k».proof.Proof.Stats

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- A point that is not the last. -/
theorem run_mid (c : Dev nD) (i : grid0.Coords) (arg1 : Memref sig .tc .vmem S2x64x96x128 .f32) (harg1 : arg1.IsWhole) (arg2 : Memref sig .tc .vmem S2x64x96x128 .f32) (harg2 : arg2.IsWhole) (arg3 : Memref sig .tc .vmem S32x64x2 .f32) (harg3 : arg3.IsWhole) (arg4 : Memref sig .tc .vmem S32x64 .f32) (harg4 : arg4.IsWhole) (arg5 : Memref sig .tc .vmem S32x3x64 .f32) (harg5 : arg5.IsWhole) (arg6 : Memref sig .tc .vmem S2x64x96x128 .f32) (harg6 : arg6.IsWhole) (arg7 : Memref sig .tc .vmem S2x64x128 .f32) (harg7 : arg7.IsWhole) (arg8 : Memref sig .tc .vmem S2x64x128 .f32) (harg8 : arg8.IsWhole) (hc : ¬ k0_cond1 i = 1#1)
    (x0 : Vec F S2x64x96x128 .f32) (s0 : Vec F S32x3x64 .f32) (E : Set ℕ) (K : PUnit → sProp 𝕄) :
    iprop(owns (c : Thread nD τ) arg1 fullShare x0 ∗ (∃ d, owns (c : Thread nD τ) arg2 fullShare d) ∗ owns (c : Thread nD τ) arg5 fullShare s0 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare (probs (k0_pay10 x0)) ∗ owns (c : Thread nD τ) arg5 fullShare (statAfter (i 0).val (k0_pay10 x0) s0) ∗ (∃ d, owns (c : Thread nD τ) arg6 fullShare d) ∗ (∃ d, owns (c : Thread nD τ) arg7 fullShare d) ∗ (∃ d, owns (c : Thread nD τ) arg8 fullShare d)) -∗ K ⟨⟩))
          ⊢ wp Idealize.ShloMosaic.frame (wpE (defs₀ (F := F)) Variants.none c none) E (cc0_softmax_map2keypoint_fused i arg1 harg1 arg2 harg2 arg3 harg3 arg4 harg4 arg5 harg5 arg6 harg6 arg7 harg7 arg8 harg8) K := by
  simp only [cc0_softmax_map2keypoint_fused_eq_skeleton]; unfold cc0_softmax_map2keypoint_fused_skel
  simp only [k0_part2_eq_skeleton]
  unfold owns
  iintro ⟨⟨%f0, %hf0, H0⟩, ⟨%d1, %f1, -, H1⟩, ⟨%fs0, %hs0, HS0⟩, ⟨%ds1, %fs1, -, HS1⟩, ⟨%ds2, %fs2, -, HS2⟩, ⟨%ds3, %fs3, -, HS3⟩, Hk⟩
  obtain rfl := harg1.eq_unread hf0
  sl_exec (disch := first | sl_exact hc)
  sl_step
  have h5 : run_mid.sl.v5 c arg1 harg1 arg6 x0 = k0_pay10 x0 := by
    unfold run_mid.sl.v5 run_mid.sl.HS1_1
    refine (View.readCov_full _ _ _ _ _).trans ?_
    rw [View.readAt_full, hf0]
  have h6 : arg6.view.read (Elt F) (arg6.view.writes (Elt F) arg6.view.junk (run_mid.sl.HS1_1 c arg1 harg1 x0)) = k0_pay10 x0 := by
    unfold run_mid.sl.HS1_1
    refine (View.read_writes_full _ _ _ _ _).trans ?_
    rw [View.readAt_full, hf0]
  have hch : ∀ k, chan arg6.view (arg6.view.writes (Elt F) arg6.view.junk (run_mid.sl.HS1_1 c arg1 harg1 x0)) k = chanOf (k0_pay10 x0) (chOf k) :=
    fun k => chan_eq _ _ _ h6 k
  have h10 : run_mid.sl.v10 c arg1 harg1 arg6 arg7 x0 = colSums (k0_pay10 x0) := by
    unfold run_mid.sl.v10
    refine (View.readAt_full _ _ _).trans ?_
    rw [h5]
    exact read_colSums _ _ _ _ hch _ rfl
  have h11 : run_mid.sl.v11 c arg1 harg1 arg6 arg8 x0 = rowSums (k0_pay10 x0) := by
    unfold run_mid.sl.v11
    refine (View.readAt_full _ _ _).trans ?_
    rw [h5]
    exact read_rowSums _ _ _ _ hch _ rfl
  iapply Hk
  isplitl [H0]
  · iexists _; isplitr; · ipureintro; exact harg1.read_unread _
    iexact H0
  isplitl [H1]
  · iexists _; isplitr; swap; · iexact H1
    ipureintro
    rw [h5]
    exact read_probs _ _ _ _ hch _ rfl
  isplitl [HS0]
  · iexists _; isplitr; swap; · iexact HS0
    ipureintro
    refine read_stats _ _ i _ _ hs0 _ _ _ ?_ ?_ ?_
    · rw [h10]; rfl
    · unfold run_mid.sl.r; rw [h10]; rfl
    · rw [h11]; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

set_option maxHeartbeats 1000000 in
/-- The last point. -/
theorem run_last (c : Dev nD) (i : grid0.Coords) (arg1 : Memref sig .tc .vmem S2x64x96x128 .f32) (harg1 : arg1.IsWhole) (arg2 : Memref sig .tc .vmem S2x64x96x128 .f32) (harg2 : arg2.IsWhole) (arg3 : Memref sig .tc .vmem S32x64x2 .f32) (harg3 : arg3.IsWhole) (arg4 : Memref sig .tc .vmem S32x64 .f32) (harg4 : arg4.IsWhole) (arg5 : Memref sig .tc .vmem S32x3x64 .f32) (harg5 : arg5.IsWhole) (arg6 : Memref sig .tc .vmem S2x64x96x128 .f32) (harg6 : arg6.IsWhole) (arg7 : Memref sig .tc .vmem S2x64x128 .f32) (harg7 : arg7.IsWhole) (arg8 : Memref sig .tc .vmem S2x64x128 .f32) (harg8 : arg8.IsWhole) (hc : k0_cond1 i = 1#1)
    (x0 : Vec F S2x64x96x128 .f32) (s0 : Vec F S32x3x64 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d) ∗ (∃ d, owns (c : Thread nD τ) arg4 fullShare d) ∗ owns (c : Thread nD τ) arg5 fullShare s0 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare (probs (k0_pay10 x0)) ∗ owns (c : Thread nD τ) arg3 fullShare (keyOf (statAfter (i 0).val (k0_pay10 x0) s0)) ∗ owns (c : Thread nD τ) arg4 fullShare (massOf (statAfter (i 0).val (k0_pay10 x0) s0)) ∗ owns (c : Thread nD τ) arg5 fullShare (statAfter (i 0).val (k0_pay10 x0) s0) ∗ (∃ d, owns (c : Thread nD τ) arg6 fullShare d) ∗ (∃ d, owns (c : Thread nD τ) arg7 fullShare d) ∗ (∃ d, owns (c : Thread nD τ) arg8 fullShare d)) -∗ K ⟨⟩))
          ⊢ wp Idealize.ShloMosaic.frame (wpE (defs₀ (F := F)) Variants.none c none) E (cc0_softmax_map2keypoint_fused i arg1 harg1 arg2 harg2 arg3 harg3 arg4 harg4 arg5 harg5 arg6 harg6 arg7 harg7 arg8 harg8) K := by
  simp only [cc0_softmax_map2keypoint_fused_eq_skeleton]; unfold cc0_softmax_map2keypoint_fused_skel
  simp only [k0_part2_eq_skeleton, k0_part1_eq_skeleton]
  unfold owns
  iintro ⟨⟨%f0, %hf0, H0⟩, ⟨%d1, %f1, -, H1⟩, ⟨%d2, %f2, -, H2⟩, ⟨%d3, %f3, -, H3⟩, ⟨%fs0, %hs0, HS0⟩, ⟨%ds1, %fs1, -, HS1⟩, ⟨%ds2, %fs2, -, HS2⟩, ⟨%ds3, %fs3, -, HS3⟩, Hk⟩
  obtain rfl := harg1.eq_unread hf0
  sl_exec (disch := first | sl_exact hc)
  sl_step
  have h5 : run_last.sl.v5 c arg1 harg1 arg6 x0 = k0_pay10 x0 := by
    unfold run_last.sl.v5 run_last.sl.HS1_1
    refine (View.readCov_full _ _ _ _ _).trans ?_
    rw [View.readAt_full, hf0]
  have h6 : arg6.view.read (Elt F) (arg6.view.writes (Elt F) arg6.view.junk (run_last.sl.HS1_1 c arg1 harg1 x0)) = k0_pay10 x0 := by
    unfold run_last.sl.HS1_1
    refine (View.read_writes_full _ _ _ _ _).trans ?_
    rw [View.readAt_full, hf0]
  have hch : ∀ k, chan arg6.view (arg6.view.writes (Elt F) arg6.view.junk (run_last.sl.HS1_1 c arg1 harg1 x0)) k = chanOf (k0_pay10 x0) (chOf k) :=
    fun k => chan_eq _ _ _ h6 k
  have h10 : run_last.sl.v10 c arg1 harg1 arg6 arg7 x0 = colSums (k0_pay10 x0) := by
    unfold run_last.sl.v10
    refine (View.readAt_full _ _ _).trans ?_
    rw [h5]
    exact read_colSums _ _ _ _ hch _ rfl
  have h11 : run_last.sl.v11 c arg1 harg1 arg6 arg8 x0 = rowSums (k0_pay10 x0) := by
    unfold run_last.sl.v11
    refine (View.readAt_full _ _ _).trans ?_
    rw [h5]
    exact read_rowSums _ _ _ _ hch _ rfl
  have hst : arg5.view.read (Elt F) (arg5.view.writes (Elt F) fs0 (run_last.sl.HS0_3 c i arg1 harg1 arg6 arg7 arg8 x0))
      = statAfter (i 0).val (k0_pay10 x0) s0 := by
    unfold run_last.sl.HS0_3
    refine read_stats _ _ i _ _ hs0 _ _ _ ?_ ?_ ?_
    · rw [h10]; rfl
    · unfold run_last.sl.r; rw [h10]; rfl
    · rw [h11]; rfl
  have hr1 : run_last.sl.r_1 c i arg1 harg1 arg5 arg6 arg7 arg8 x0 fs0 = massOf (statAfter (i 0).val (k0_pay10 x0) s0) := by
    unfold run_last.sl.r_1 massOf
    exact congrArg k0_pay7 (load_row _ _ _ hst 0 _)
  have hr2 : run_last.sl.r_2 c i arg1 harg1 arg5 arg6 arg7 arg8 x0 fs0 = k0_pay8 (rowOf (statAfter (i 0).val (k0_pay10 x0) s0) 2) := by
    unfold run_last.sl.r_2
    exact congrArg k0_pay8 (load_row _ _ _ hst 2 _)
  have hr3 : run_last.sl.r_3 c i arg1 harg1 arg5 arg6 arg7 arg8 x0 fs0
      = k0_pay9 (rowOf (statAfter (i 0).val (k0_pay10 x0) s0) 0) (rowOf (statAfter (i 0).val (k0_pay10 x0) s0) 1) := by
    unfold run_last.sl.r_3
    exact congrArg₂ k0_pay9 (load_row _ _ _ hst 0 _) (load_row _ _ _ hst 1 _)
  iapply Hk
  isplitl [H0]
  · iexists _; isplitr; · ipureintro; exact harg1.read_unread _
    iexact H0
  isplitl [H1]
  · iexists _; isplitr; swap; · iexact H1
    ipureintro
    rw [h5]
    exact read_probs _ _ _ _ hch _ rfl
  isplitl [H2]
  · iexists _; isplitr; swap; · iexact H2
    ipureintro
    refine read_keys _ _ _ _ _ ?_ ?_
    · rw [hr3]
    · rw [hr1, hr2]
  isplitl [H3]
  · iexists _; isplitr; swap; · iexact H3
    ipureintro
    exact (View.read_writes_full _ _ _ _ _).trans hr1
  isplitl [HS0]
  · iexists _; isplitr; swap; · iexact HS0
    ipureintro
    exact hst
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.KernelIdeal.Hand

end
-- ==== Proof.Data.lean ====
/- What the region carries from point to point, and the body's obligation.

   Before point `t` the statistics' buffer holds, in the rows of the batches of the points before `t`, their statistics.
   The keypoints' and the masses' buffers are left alone until the last point. -/
module

public import proofs.«01_k».proof.Proof.Run

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The exponentials of the input block of point `t`. -/
def expAt (c : Dev nD) (t : Fin cfg0.N) : Vec F S2x64x96x128 .f32 := k0_pay10 (iblk m c 0 t)

/-- The point that computes batch `b`. -/
def ptOf (b : Fin 32) : Fin cfg0.N := ⟨b.val / 2, lt_of_lt_of_eq (by have := b.isLt; omega : b.val / 2 < 16) N_0.symm⟩

/-- The statistics of every batch. -/
def stats (c : Dev nD) : Vec F S32x3x64 .f32 :=
  fun y => statRow (expAt m c (ptOf (y 0))) (y 1)
    (ix3 (n0 := 2) (n1 := 1) (n2 := 64) ⟨(y 0).val % 2, Nat.mod_lt _ (by decide)⟩ 0 (y 2))

/-- A buffer holds the statistics of the batches of the points before `n`. -/
def Upto (c : Dev nD) (n : ℕ) (d : Vec F S32x3x64 .f32) : Prop := ∀ y : S32x3x64.Idx, (y 0).val < 2 * n → d y = stats m c y

/-- One more point. -/
theorem upto_succ (c : Dev nD) (t : Fin cfg0.N) (d : Vec F S32x3x64 .f32) (h : Upto m c t.val d) :
    Upto m c (t.val + 1) (statAfter t.val (expAt m c t) d) := by
  intro y hy
  unfold statAfter
  by_cases hc : 2 * t.val ≤ (y 0).val ∧ (y 0).val < 2 * t.val + 2
  · rw [dif_pos hc]
    have hp : ptOf (y 0) = t := Fin.ext (by show (y 0).val / 2 = t.val; omega)
    have hr : (⟨(y 0).val - 2 * t.val, by omega⟩ : Fin 2) = ⟨(y 0).val % 2, Nat.mod_lt _ (by decide)⟩ := Fin.ext (by show (y 0).val - 2 * t.val = (y 0).val % 2; omega)
    unfold stats
    rw [hp, hr]
  · rw [dif_neg hc]
    exact h y (by omega)

/-- After all points the buffer is the statistics. -/
theorem upto_all (c : Dev nD) (d : Vec F S32x3x64 .f32) (h : Upto m c 16 d) : d = stats m c :=
  funext fun y => h y (by have : (y 0).val < 32 := (y 0).isLt; omega)

/-- The region's invariant before point `n`. -/
def carried (c : Dev nD) (n : ℕ) : sProp 𝕄 :=
  iprop(iprop((∃ d, owns (c : Thread nD τ) scrStat fullShare d ∗ ⌜Upto m c n d⌝) ∗ (∃ d, owns (c : Thread nD τ) scrExp fullShare d) ∗ (∃ d, owns (c : Thread nD τ) scrCol fullShare d) ∗ (∃ d, owns (c : Thread nD τ) scrRow fullShare d)) ∗ (∃ r, prngReg c r))

/-- The region's data: the arrays as found; the input's buffer left at its block, the probabilities' buffer at the block's
    probabilities, and the keypoints' and masses' buffers at those of the whole statistics. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => probs (expAt m c t)
    | ⟨2, _⟩ => keyOf (stats m c)
    | ⟨3, _⟩ => massOf (stats m c)
  Φ t := carried m c t.val
  q _ := fullShare
  owed _ := 0

/-- The arrays are as the region finds them. -/
theorem dats_A (c : Dev nD) (w : Fin cfg0.W) : (dats m 0 c).A w = V m c (Pipeline.arrRef spec0 w) := by
  dsimp only [dats]

/-- The input's staging buffer is left at its block. -/
theorem after_in (c : Dev nD) (t : Fin cfg0.N) : (dats m 0 c).after 0 t = iblk m c 0 t := by dsimp only [dats]
/-- The probabilities' staging buffer is left at the block's probabilities. -/
theorem after_probs (c : Dev nD) (t : Fin cfg0.N) : (dats m 0 c).after 1 t = probs (expAt m c t) := by dsimp only [dats]
/-- The keypoints' staging buffer is left at the keypoints of the whole statistics. -/
theorem after_key (c : Dev nD) (t : Fin cfg0.N) : (dats m 0 c).after 2 t = keyOf (stats m c) := by dsimp only [dats]
/-- The masses' staging buffer is left at the masses of the whole statistics. -/
theorem after_mass (c : Dev nD) (t : Fin cfg0.N) : (dats m 0 c).after 3 t = massOf (stats m c) := by dsimp only [dats]

/-- The input's staging buffer holds its block when the body is called. -/
theorem before_in (c : Dev nD) (t : Fin cfg0.N) (d) : (dats m 0 c).before 0 t d = iblk m c 0 t :=
  before0_0_of m (dats m 0 c) (dats_A m c 0) (after_in m c) t d

/-- The invariant before a point. -/
theorem carried_before (c : Dev nD) (t : Fin cfg0.N) : (dats m 0 c).Φ t.castSucc = carried m c t.val := by dsimp only [dats]; rfl
/-- And after it. -/
theorem carried_after (c : Dev nD) (t : Fin cfg0.N) : (dats m 0 c).Φ t.succ = carried m c (t.val + 1) := by dsimp only [dats]; rfl

/-- What the body is called with at point `t`. -/
def pre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d)))

/-- What the body hands back. -/
def post (c : Dev nD) (t : Fin cfg0.N) : sProp 𝕄 :=
  iprop((dats m 0 c).Φ t.succ ∗ (dats m 0 c).owesAt () t.succ
    ∗ (dats m 0 c).leavesExact 0 t ∗ (dats m 0 c).leavesExact 1 t
    ∗ (dats m 0 c).leavesExact 2 t ∗ (dats m 0 c).leavesExact 3 t)

/-- The keypoints' output is idle before the last point. -/
theorem idle_key (t : Fin cfg0.N) (h : t.val ≠ 15) : cfg0.idle 2 (grid0.coords t) = true := by
  show (!(k0_cond1 (grid0.coords t) == 1#1)) = true
  have : ¬ k0_cond1 (grid0.coords t) = 1#1 := fun hc => h ((last_iff t).mp hc)
  simp [this]
/-- The masses' output is idle before the last point. -/
theorem idle_mass (t : Fin cfg0.N) (h : t.val ≠ 15) : cfg0.idle 3 (grid0.coords t) = true := idle_key t h
/-- The keypoints' output is written at the last point. -/
theorem live_key (t : Fin cfg0.N) (h : t.val = 15) : cfg0.idle 2 (grid0.coords t) = false := by
  show (!(k0_cond1 (grid0.coords t) == 1#1)) = false
  have : k0_cond1 (grid0.coords t) = 1#1 := (last_iff t).mpr h
  simp [this]
/-- And so is the masses'. -/
theorem live_mass (t : Fin cfg0.N) (h : t.val = 15) : cfg0.idle 3 (grid0.coords t) = false := live_key t h

/-- The keypoints are not written back before the last point. -/
theorem noflush_key (t : Fin cfg0.N) (h : t.val ≠ 15) : (cfg0.win 2).flush t = false := by
  have ht : t.val < 16 := lt_of_lt_of_eq t.isLt N_0
  have := flush0_2 t
  exact Bool.eq_false_iff.mpr fun hf => h (by have := this.mp hf; omega)
/-- Nor are the masses. -/
theorem noflush_mass (t : Fin cfg0.N) (h : t.val ≠ 15) : (cfg0.win 3).flush t = false := by
  have ht : t.val < 16 := lt_of_lt_of_eq t.isLt N_0
  have := flush0_3 t
  exact Bool.eq_false_iff.mpr fun hf => h (by have := this.mp hf; omega)

/-- The input's buffer is handed back at its block. -/
theorem leaves_in (c : Dev nD) (t : Fin cfg0.N) :
    (dats m 0 c).leavesExact 0 t = owns (c : Thread nD τ) (stg0 t) fullShare (iblk m c 0 t) := by
  unfold Dat.leavesExact; rw [show cfg0.idle 0 (cfg0.grid.coords t) = false from rfl, after_in]
/-- The probabilities' buffer is handed back at the block's probabilities. -/
theorem leaves_probs (c : Dev nD) (t : Fin cfg0.N) :
    (dats m 0 c).leavesExact 1 t = owns (c : Thread nD τ) (stg1 t) fullShare (probs (expAt m c t)) := by
  unfold Dat.leavesExact; rw [show cfg0.idle 1 (cfg0.grid.coords t) = false from rfl, after_probs]
/-- At the last point the keypoints' buffer is handed back at the keypoints. -/
theorem leaves_key (c : Dev nD) (t : Fin cfg0.N) (h : t.val = 15) :
    (dats m 0 c).leavesExact 2 t = owns (c : Thread nD τ) (stg2 t) fullShare (keyOf (stats m c)) := by
  unfold Dat.leavesExact; rw [show cfg0.idle 2 (cfg0.grid.coords t) = false from live_key t h, after_key]
/-- And the masses' buffer at the masses. -/
theorem leaves_mass (c : Dev nD) (t : Fin cfg0.N) (h : t.val = 15) :
    (dats m 0 c).leavesExact 3 t = owns (c : Thread nD τ) (stg3 t) fullShare (massOf (stats m c)) := by
  unfold Dat.leavesExact; rw [show cfg0.idle 3 (cfg0.grid.coords t) = false from live_mass t h, after_mass]
/-- Before the last point the keypoints' buffer is handed back as it was. -/
theorem keeps_key (c : Dev nD) (t : Fin cfg0.N) (h : t.val ≠ 15) :
    (dats m 0 c).leavesExact 2 t = iprop(∃ d, owns (c : Thread nD τ) (stg2 t) fullShare ((dats m 0 c).before 2 t d)) :=
  Dat.leavesExact_idle (dats m 0 c) 2 t (idle_key t h) (noflush_key t h)
/-- And so is the masses'. -/
theorem keeps_mass (c : Dev nD) (t : Fin cfg0.N) (h : t.val ≠ 15) :
    (dats m 0 c).leavesExact 3 t = iprop(∃ d, owns (c : Thread nD τ) (stg3 t) fullShare ((dats m 0 c).before 3 t d)) :=
  Dat.leavesExact_idle (dats m 0 c) 3 t (idle_mass t h) (noflush_mass t h)

set_option maxHeartbeats 1600000 in
/-- The body at any point takes what it is called with to what it hands back. -/
theorem sound_body (c : Dev nD) (t : Fin cfg0.N) :
    pre m c t ⊢ wp Idealize.ShloMosaic.frame (wpE (defs₀ (F := F)) Variants.none c none) Set.univ (bodyAt0 t) (fun _ => post m c t) := by
  unfold pre post bodyAt0
  simp only [before_in]
  rw [carried_before, carried_after, leaves_in, leaves_probs,
    show (dats m 0 c).owesAt () t.succ = (dats m 0 c).owesAt () t.castSucc from rfl]
  unfold carried
  have hN : t.val < 16 := lt_of_lt_of_eq t.isLt N_0
  have hi : (grid0.coords t 0).val = t.val := coord_val t
  by_cases h : t.val = 15
  · rw [leaves_key m c t h, leaves_mass m c t h]
    iintro ⟨⟨⟨⟨%ds, HS0, %hs⟩, HS1, HS2, HS3⟩, Hg⟩, Ho, ⟨%d0, H0⟩, ⟨%d1, H1⟩, ⟨%d2, H2⟩, ⟨%d3, H3⟩⟩
    have hup := upto_succ m c t ds hs
    have hst : statAfter (grid0.coords t 0).val (k0_pay10 (iblk m c 0 t)) ds = stats m c := by
      rw [hi]; exact upto_all m c _ (by rw [h] at hup; rw [h]; exact hup)
    iapply (run_last c (grid0.coords t) _ _ _ _ _ _ _ _ _ _ _ _ _ _ _ _ ((last_iff t).mpr h) (iblk m c 0 t) ds Set.univ _)
    isplitl [H0]; · iexact H0
    isplitl [H1]; · iexists _; iexact H1
    isplitl [H2]; · iexists _; iexact H2
    isplitl [H3]; · iexists _; iexact H3
    isplitl [HS0]; · iexact HS0
    isplitl [HS1]; · iexact HS1
    isplitl [HS2]; · iexact HS2
    isplitl [HS3]; · iexact HS3
    rw [hst]
    iintro ⟨H0, H1, H2, H3, HS0, HS1, HS2, HS3⟩
    isplitl [HS0 HS1 HS2 HS3 Hg]
    · isplitl [HS0 HS1 HS2 HS3]
      · isplitl [HS0]
        · iexists _; isplitl [HS0]; · iexact HS0
          ipureintro; exact fun _ _ => rfl
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    iexact H3
  · rw [keeps_key m c t h, keeps_mass m c t h]
    iintro ⟨⟨⟨⟨%ds, HS0, %hs⟩, HS1, HS2, HS3⟩, Hg⟩, Ho, ⟨%d0, H0⟩, ⟨%d1, H1⟩, H2, H3⟩
    have hup := upto_succ m c t ds hs
    iapply (run_mid c (grid0.coords t) _ _ _ _ _ _ _ _ _ _ _ _ _ _ _ _ (fun hc => h ((last_iff t).mp hc)) (iblk m c 0 t) ds Set.univ _)
    isplitl [H0]; · iexact H0
    isplitl [H1]; · iexists _; iexact H1
    isplitl [HS0]; · iexact HS0
    isplitl [HS1]; · iexact HS1
    isplitl [HS2]; · iexact HS2
    isplitl [HS3]; · iexact HS3
    rw [hi]
    iintro ⟨H0, H1, HS0, HS1, HS2, HS3⟩
    isplitl [HS0 HS1 HS2 HS3 Hg]
    · isplitl [HS0 HS1 HS2 HS3]
      · isplitl [HS0]
        · iexists _; isplitl [HS0]; · iexact HS0
          ipureintro; exact hup
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    iexact H3

/-- The body the region calls at point `t` is the body at the point's buffers. -/
theorem row_eq (t : Fin cfg0.N) :
    defs₀ (F := F) .tc cfg0.body (cfg0.bodyArgs t (cfg0.slots t)) = bodyAt0 t := by
  unfold defs₀; rw [Defs.onTc_tc]

/-- The body's obligation, as the region's rule asks for it. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

end Cert.KernelIdeal.Hand

end
-- ==== Proof.Launch.lean ====
/- The kernel's run: it terminates without a fault, leaves every argument as found, and each result array holds a function
   of the input alone. -/
module

public import proofs.«01_k».proof.Proof.Data
public import Idealize.ShloMosaic.Lib.Pipeline.ValueKit
public import Idealize.ShloMosaic.Lib.Quiescent

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scoped buffers as the region finds them are what it carries before the first point: nothing is known yet. -/
theorem carried_in (c : Dev nD) : (Pipeline.ΦA spec0 c : sProp 𝕄) ⊢ carried m c 0 := by
  rw [own_eq c]
  unfold carried
  iintro ⟨⟨⟨%d, H0⟩, H1, H2, H3⟩, Hg⟩
  isplitl [H0 H1 H2 H3]
  · isplitl [H0]
    · iexists d
      isplitl [H0]; · iexact H0
      ipureintro
      exact fun y hy => absurd hy (by omega)
    isplitl [H1]; · iexact H1
    isplitl [H2]; · iexact H2
    iexact H3
  iexact Hg

/-- What it carries at the end is the scoped buffers, at some contents. -/
theorem carried_out (c : Dev nD) (n : ℕ) : carried m c n ⊢ (Pipeline.ΦA spec0 c : sProp 𝕄) := by
  rw [own_eq c]
  unfold carried
  iintro ⟨⟨⟨%d, H0, %h⟩, H1, H2, H3⟩, Hg⟩
  isplitl [H0 H1 H2 H3]
  · isplitl [H0]
    · iexists d
      iexact H0
    isplitl [H1]; · iexact H1
    isplitl [H2]; · iexact H2
    iexact H3
  iexact Hg

set_option backward.isDefEq.respectTransparency.types false in
/-- The launched program ends with the arrays at the region's data and no semaphore held. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := dats_A m)
    (hin := fun c => carried_in m c) (hout := fun c => carried_out m c _)

/-- The frame: every argument is left as found and every semaphore ends at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).1 0).trans (((dats m 0 c).arrAt_in 0 rfl _).trans (dats_A m c 0)),
      (h.1 c).2 main_arg1 (Pipeline.mem_restRefs_of main_arg1 (by decide) (by decide)),
      (h.1 c).2 main_arg2 (Pipeline.mem_restRefs_of main_arg2 (by decide) (by decide))⟩, h.2⟩) (run_main_quiescent m ρ)

/-! ## The result arrays -/

/-- The probabilities of the whole input: batch `b` is computed at point `b / 2`, as that block's batch `b % 2`. -/
def probArr (c : Dev nD) : Vec F S32x64x96x128 .f32 :=
  fun y => probs (expAt m c (ptOf (y 0)))
    (ValueIdx.ix4 (n0 := 2) (n1 := 64) (n2 := 96) (n3 := 128) ⟨(y 0).val % 2, Nat.mod_lt _ (by decide)⟩ (y 1) (y 2) (y 3))

/-- Reading it where point `t` places a block index. -/
theorem probArr_at (c : Dev nD) (t : Fin cfg0.N) (y : S2x64x96x128.Idx) (i : S32x64x96x128.Idx)
    (h0 : (i 0).val = t.val * 2 + (y 0).val) (h1 : (i 1).val = (y 1).val) (h2 : (i 2).val = (y 2).val) (h3 : (i 3).val = (y 3).val) :
    probArr m c i = probs (expAt m c t) y := by
  have hy : (y 0).val < 2 := (y 0).isLt
  have hp : ptOf (i 0) = t := Fin.ext (by show (i 0).val / 2 = t.val; omega)
  unfold probArr
  rw [hp]
  congr 1
  funext a
  match a with
  | ⟨0, _⟩ => exact Fin.ext (by show (i 0).val % 2 = (y 0).val; omega)
  | ⟨1, _⟩ => exact Fin.ext h1
  | ⟨2, _⟩ => exact Fin.ext h2
  | ⟨3, _⟩ => exact Fin.ext h3

/-- Where the probabilities' blocks lie. -/
theorem idx_probs : ∀ t : Fin cfg0.N, win0_1.index t = ![t.val, 0, 0, 0] := (by decide +kernel : ∀ t : Fin grid0.N, _)

/-- The first result array ends as the probabilities. -/
theorem arr_probs (c : Dev nD) : (dats m 0 c).arrAt 1 cfg0.N = probArr m c := by
  refine (dats m 0 c).arrAt_eq_of_covers 1 _ (by decide +kernel) fun t hf y => ?_
  blk_simp
  rw [after_probs]
  refine (probArr_at m c t y _ ?_ ?_ ?_ ?_).symm <;> blk_simp [idx_probs t] <;> rfl

/-- The second ends as the keypoints of the whole statistics. -/
theorem arr_key (c : Dev nD) : (dats m 0 c).arrAt 2 cfg0.N = keyOf (stats m c) := by
  refine (dats m 0 c).arrAt_eq_of_after_last 2 t0_15 (by decide +kernel) _ fun j => ?_
  rw [after_key]
  rfl

/-- The third ends as the masses of the whole statistics. -/
theorem arr_mass (c : Dev nD) : (dats m 0 c).arrAt 3 cfg0.N = massOf (stats m c) := by
  refine (dats m 0 c).arrAt_eq_of_after_last 3 t0_15 (by decide +kernel) _ fun j => ?_
  rw [after_mass]
  rfl

/-- The run, read at the results and the arguments. -/
theorem run_values : θ_run defs (onTc (τ := τ) (main (F := F))) ⟨m, fun _ => 0, ρ⟩ (fun r => ∀ c : Dev nD,
      r.2.mem ((c.tc : Thread nD τ).loc main_v0_0) = probArr m c
      ∧ r.2.mem ((c.tc : Thread nD τ).loc main_v0_1) = keyOf (stats m c)
      ∧ r.2.mem ((c.tc : Thread nD τ).loc main_v0_2) = massOf (stats m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).1 1).trans (arr_probs m c), ((h.1 c).1 2).trans (arr_key m c), ((h.1 c).1 3).trans (arr_mass m c),
      ((h.1 c).1 0).trans (((dats m 0 c).arrAt_in 0 rfl _).trans (dats_A m c 0)),
      (h.1 c).2 main_arg1 (Pipeline.mem_restRefs_of main_arg1 (by decide) (by decide)),
      (h.1 c).2 main_arg2 (Pipeline.mem_restRefs_of main_arg2 (by decide) (by decide))⟩) (run_main_quiescent m ρ)

end Cert.KernelIdeal.Hand

end
-- ==== Proof.Twin.lean ====
/- The printed program and its idealization are one text: the same configuration, the same body, the same main. What was
   proved of the idealization at any reading of the floats therefore holds of the printed program. -/
module

public import proofs.«01_k».proof.Proof.Gen.Kernel
public import proofs.«01_k».proof.Proof.Launch

@[expose] public section

set_option maxRecDepth 16384

noncomputable section

namespace Cert.Kernel.Hand

open Idealize.ShloMosaic Idealize.ShloMosaic.TcCoe Idealize.SL.Sem

variable {F : FTy → Type} [FloatOps F]

/-- The bodies the regions call are the same. -/
theorem bodies_eq : (Cert.Kernel.defs₀ (F := F)) = Cert.KernelIdeal.defs₀ (F := F) := by
  unfold Cert.Kernel.defs₀ Cert.KernelIdeal.defs₀
  congr 1
  funext l x
  match l, x with
  | 0, (t, s) => rfl

/-- So are the programs' procedure tables. -/
theorem defs_eq : (Cert.Kernel.defs (F := F)) = Cert.KernelIdeal.defs (F := F) := by
  unfold Cert.Kernel.defs Cert.KernelIdeal.defs
  exact congrArg (Pipeline.defs _) bodies_eq

/-- The printed program's frame, and that it ends with every semaphore at zero. -/
theorem frame (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq]
  exact Cert.KernelIdeal.Hand.frame_quiescent m g

end Cert.Kernel.Hand

end
-- ==== Proof.Softmax.lean ====
/- The arithmetic of a softmax over the extended reals: exponentials divided by their sum do not change when a finite number no
   less than any of the arguments, and equal to one of them, is taken off every argument first. -/
module

public import Idealize.ShloMosaic.PureOps.Ideal

@[expose] public section

noncomputable section

namespace Cert.Maths

open Idealize.ShloMosaic

/-- The exponential of an argument at most a finite `μ` is a real number, and taking `μ` off the argument multiplies it by `exp (-μ)`. -/
theorem exp_shift (x : EReal) (μ : ℝ) (h : x ≤ μ) :
    ∃ e : ℝ, 0 ≤ e ∧ Ideal.exp x = (e : EReal) ∧ Ideal.exp (x - μ) = ((e * Real.exp (-μ) : ℝ) : EReal) ∧ (x ≠ ⊥ → 0 < e) := by
  induction x using EReal.rec with
  | bot => exact ⟨0, le_rfl, by simp, by simp, fun h => absurd rfl h⟩
  | top => exact absurd h (by simp)
  | coe r =>
    refine ⟨Real.exp r, (Real.exp_pos r).le, by simp, ?_, fun _ => Real.exp_pos r⟩
    rw [← EReal.coe_sub, Ideal.exp_coe, ← Real.exp_add, sub_eq_add_neg]

/-- The sum of real numbers, as extended reals, is their sum. -/
theorem coe_sum {ι : Type*} (s : Finset ι) (f : ι → ℝ) : (∑ k ∈ s, (f k : EReal)) = ((∑ k ∈ s, f k : ℝ) : EReal) :=
  (map_sum (⟨⟨fun r : ℝ => (r : EReal), EReal.coe_zero⟩, EReal.coe_add⟩ : ℝ →+ EReal) f s).symm

/-- One quotient: the shifted softmax is a real number, and the product of the exponential and the reciprocal of the sum of the
    exponentials is the same one. -/
theorem softmax {n : ℕ} (x : Fin n → EReal) (μ : ℝ) (hle : ∀ k, x k ≤ μ) (k₀ : Fin n) (h₀ : x k₀ = μ) (k : Fin n) :
    ∃ r : ℝ, Ideal.div (Ideal.exp (x k - μ)) (∑ j, Ideal.exp (x j - μ)) = (r : EReal)
      ∧ Ideal.exp (x k) * Ideal.div 1 (∑ j, Ideal.exp (x j)) = (r : EReal) := by
  choose e e0 he hs hp using fun j => exp_shift (x j) μ (hle j)
  have hpos : 0 < ∑ j, e j :=
    Finset.sum_pos' (fun j _ => e0 j) ⟨k₀, Finset.mem_univ _, hp k₀ (by rw [h₀]; exact EReal.coe_ne_bot μ)⟩
  have hc : 0 < Real.exp (-μ) := Real.exp_pos _
  refine ⟨e k * (1 / ∑ j, e j), ?_, ?_⟩
  · simp only [hs]
    rw [coe_sum, ← Finset.sum_mul, Ideal.div_coe (mul_pos hpos hc).ne', ← EReal.coe_mul]
    congr 1
    rw [one_div, one_div, mul_inv, mul_assoc, mul_comm (∑ j, e j)⁻¹, ← mul_assoc (Real.exp (-μ)), mul_inv_cancel₀ hc.ne', one_mul]
  · simp only [he]
    rw [coe_sum, Ideal.div_coe hpos.ne', one_mul, ← EReal.coe_mul]

/-- A quotient rounded to the nearest even integer, replaced by `alt` where it exceeds `hi` or is negative. -/
def clampRound (hi alt : BitVec 32) (z : EReal) : EReal :=
  Scalar.select (IntOp.ori (BitVec.ofBool (decide (Ideal.ofBits .f32 hi < Ideal.liftRound Ideal.roundHalfEven z)))
    (BitVec.ofBool (decide (Ideal.liftRound Ideal.roundHalfEven z < 0)))) (Ideal.ofBits .f32 alt) (Ideal.liftRound Ideal.roundHalfEven z)

/-- A real weight taken out of a sum of real numbers, and the two sums exchanged. -/
theorem sum_weight {m n : ℕ} (q : Fin m → Fin n → EReal) (hq : ∀ i j, ∃ r : ℝ, q i j = (r : EReal)) (g : Fin m → EReal)
    (hg : ∀ i, ∃ r : ℝ, g i = (r : EReal)) : (∑ j, ∑ i, q i j * g i) = ∑ i, (∑ j, q i j) * g i := by
  choose r hr using hq
  choose s hs using hg
  rw [Finset.sum_comm]
  refine Finset.sum_congr rfl fun i _ => ?_
  simp only [hr, hs, ← EReal.coe_mul, coe_sum]
  rw [← Finset.sum_mul]

end Cert.Maths

end
-- ==== Proof.KernelValue.lean ====
/- What the kernel's pieces hold at an index, as sums over the extended reals. -/
module

public import proofs.«01_k».proof.Proof.Stats
public import proofs.«01_k».proof.Proof.Softmax
public import Idealize.ShloMosaic.Lib.Pointwise

@[expose] public section

set_option maxRecDepth 16384

noncomputable section

namespace Cert.KernelIdeal.Hand

open Cert.KernelIdeal Cert.KernelIdeal.Gen
open Idealize.ShloMosaic

/-- The word of a small natural, read signed, is the natural. -/
theorem toInt_ofNat (a : ℕ) (ha : a < 2 ^ 31) : (BitVec.ofNat 32 a).toInt = a := by
  rw [BitVec.toInt_ofNat']
  exact Int.bmod_eq_of_le (by omega) (by omega)

/-- A mask, as a number: one where the bit is set and zero elsewhere. -/
theorem mask_mul (p : Prop) [Decidable p] (c : BitVec 1) (hc : c = if p then 1#1 else 0#1) (v : EReal) :
    v * FloatOps.sitofp (F := Ideal) FTy.f32 (BitVec.setWidth 32 c) = if p then v else 0 := by
  subst hc
  show v * (((BitVec.setWidth 32 (if p then 1#1 else 0#1)).toInt : ℝ) : EReal) = _
  split
  · rw [show (BitVec.setWidth 32 1#1).toInt = 1 by decide]; simp
  · rw [show (BitVec.setWidth 32 0#1).toInt = 0 by decide]; simp

/-- Comparing two small naturals' words, signed, compares the naturals: at most. -/
theorem cmp_le (a b : ℕ) (ha : a < 2 ^ 31) (hb : b < 2 ^ 31) :
    IntOp.cmpi .sle (BitVec.ofNat 32 a) (BitVec.ofNat 32 b) = if a ≤ b then 1#1 else 0#1 := by
  show BitVec.ofBool ((BitVec.ofNat 32 a).sle (BitVec.ofNat 32 b)) = _
  rw [BitVec.sle_eq_decide, toInt_ofNat a ha, toInt_ofNat b hb]
  by_cases h : a ≤ b <;> simp [h]
/-- And less than. -/
theorem cmp_lt (a b : ℕ) (ha : a < 2 ^ 31) (hb : b < 2 ^ 31) :
    IntOp.cmpi .slt (BitVec.ofNat 32 a) (BitVec.ofNat 32 b) = if a < b then 1#1 else 0#1 := by
  show BitVec.ofBool ((BitVec.ofNat 32 a).slt (BitVec.ofNat 32 b)) = _
  rw [BitVec.slt_eq_decide, toInt_ofNat a ha, toInt_ofNat b hb]
  by_cases h : a < b <;> simp [h]

/-- The probabilities of a block: the exponential times the reciprocal of the sum over the channels. -/
theorem probs_at (e : FVec Ideal S2x64x96x128 .f32) (r : Fin 2) (k : Fin 64) (h : Fin 96) (w : Fin 128) :
    probs (F := Ideal) e (ix4 r k h w) = e (ix4 r k h w) * Ideal.div 1 (∑ k', e (ix4 r k' h w)) := by
  pointwise [probs, k0_pay12, k0_pay11, chanOf]
  all_goals rfl

/-- The mass of a batch and channel of a block. -/
theorem statRow0_at (e : FVec Ideal S2x64x96x128 .f32) (r : Fin 2) (k : Fin 64) :
    statRow (F := Ideal) e 0 (ix3 r 0 k) = ∑ w, ∑ h, probs (F := Ideal) e (ix4 r k h w) := by
  simp only [probs_at]
  unfold statRow
  pointwise [k0_pay15, colSums, k0_pay13, k0_pay11, chanOf]
  all_goals rfl

/-- Its sum weighted by the column. -/
theorem statRow1_at (e : FVec Ideal S2x64x96x128 .f32) (r : Fin 2) (k : Fin 64) :
    statRow (F := Ideal) e 1 (ix3 r 0 k)
      = ∑ w : Fin 128, (∑ h, probs (F := Ideal) e (ix4 r k h w)) * FloatOps.sitofp (F := Ideal) FTy.f32 (BitVec.ofNat 32 w.val) := by
  simp only [probs_at]
  unfold statRow
  pointwise [k0_pay1, k0_pay16, colSums, k0_pay13, k0_pay11, chanOf]
  all_goals rfl

/-- Its sum weighted by the row. -/
theorem statRow2_at (e : FVec Ideal S2x64x96x128 .f32) (r : Fin 2) (k : Fin 64) :
    statRow (F := Ideal) e 2 (ix3 r 0 k)
      = ∑ w : Fin 128, ∑ h : Fin 96, probs (F := Ideal) e (ix4 r k h w) * FloatOps.sitofp (F := Ideal) FTy.f32 (BitVec.ofNat 32 h.val) := by
  simp only [probs_at]
  unfold statRow
  pointwise [k0_pay2, rowSums, k0_pay14, k0_pay11, chanOf]
  all_goals rfl

/-- The running sum over batches and channels that the kernel computes of a row of the statistics. -/
theorem running_at (v : FVec Ideal S32x1x64 .f32) (b : Fin 32) (k : Fin 64) :
    k0_pay8 (F := Ideal) v (ix2 b k)
      = (∑ l : Fin 64, if l.val ≤ k.val then v (ix3 b 0 l) else 0) + ∑ i : Fin 32, if i.val < b.val then ∑ l : Fin 64, v (ix3 i 0 l) else 0 := by
  pointwise [k0_pay8, k0_pay5, k0_pay6]
  have hb := b.isLt
  have hk := k.isLt
  refine congrArg₂ (· + ·) (Finset.sum_congr rfl fun l _ => mask_mul _ _ (cmp_le _ _ (by have := l.isLt; omega) (by omega)) _)
    (Finset.sum_congr rfl fun i _ => (mask_mul _ _ (cmp_lt _ _ (by have := i.isLt; omega) (by omega)) _).trans ?_)
  refine congrArg (fun s : EReal => if i.val < b.val then s else 0) (Finset.sum_congr rfl fun l _ => ?_)
  exact (mask_mul _ _ (cmp_le _ 63 (by have := l.isLt; omega) (by omega)) _).trans (if_pos (by have := l.isLt; omega))

/-- The first coordinate's quotient: the running sum over the mass. -/
theorem ratio_at (u v : FVec Ideal S32x1x64 .f32) (b : Fin 32) (k : Fin 64) :
    k0_pay9 (F := Ideal) u v (ix2 b k) = Ideal.div (k0_pay8 (F := Ideal) v (ix2 b k)) (u (ix3 b 0 k)) := by
  pointwise [k0_pay9, k0_pay8, k0_pay5, k0_pay6, k0_pay7]
  all_goals rfl

/-- The masses are the first row of the statistics. -/
theorem mass_row (v : FVec Ideal S32x1x64 .f32) (b : Fin 32) (k : Fin 64) : k0_pay7 (F := Ideal) v (ix2 b k) = v (ix3 b 0 k) := by
  pointwise [k0_pay7]
  all_goals rfl

/-- The first coordinate: a quotient rounded and clamped. -/
theorem first_at (u : FVec Ideal S32x64 .f32) (b : Fin 32) (k : Fin 64) :
    k0_pay3 (F := Ideal) u (ix3 b k 0) = Maths.clampRound 0x43000000#32 0x42800000#32 (u (ix2 b k)) := by
  unfold Maths.clampRound
  pointwise [k0_pay3]
  all_goals rfl

/-- The second coordinate, its quotient included. -/
theorem second_at (u v : FVec Ideal S32x64 .f32) (b : Fin 32) (k : Fin 64) :
    k0_pay4 (F := Ideal) u v (ix3 b k 0)
      = Maths.clampRound 0x42C00000#32 0x42400000#32 (Ideal.div (v (ix2 b k)) (u (ix2 b k))) := by
  unfold Maths.clampRound
  pointwise [k0_pay4]
  all_goals rfl

end Cert.KernelIdeal.Hand

end
-- ==== Proof.Reference.lean ====
/- What the reference computes, as functions of the input array: the probabilities, their masses, the two weighted sums, the
   running sum over batches and channels, and the keypoints. -/
module

public import proofs.«01_k».proof.Proof.Gen.ReferenceIdeal.Run

@[expose] public section

set_option maxRecDepth 16384

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The largest channel at every pixel. -/
def top (x : FVec F S32x64x96x128 .f32) : FVec F S32x96x128 .f32 :=
  maximumf (broadcastInDim S32x96x128 ![] bcast_S_S32x96x128 (constant S_ .f32 0xFF800000#32))
    (Host.reduce FloatOps.maximumf x (constant S_ .f32 0xFF800000#32) reducesTo_S32x64x96x128_S32x96x128_d1 h_S_)

/-- A value per pixel, repeated along the channels. -/
def spread (v : FVec F S32x96x128 .f32) : FVec F S32x64x96x128 .f32 :=
  broadcastInDim S32x64x96x128 ![0, 1, 2, 3] bcast_S32x1x96x128_S32x64x96x128_0_1_2_3
    (broadcastInDim S32x1x96x128 ![0, 2, 3] bcast_S32x96x128_S32x1x96x128_0_2_3 v)

/-- The exponentials of the channels less the largest. -/
def expo (x : FVec F S32x64x96x128 .f32) : FVec F S32x64x96x128 .f32 := Host.exp (subf x (spread (top x)))

/-- Their sum over the channels. -/
def denom (x : FVec F S32x64x96x128 .f32) : FVec F S32x96x128 .f32 :=
  Host.reduceAdd (expo x) (constant S_ .f32 0x00000000#32) reducesTo_S32x64x96x128_S32x96x128_d1 h_S_

/-- The probabilities. -/
def prob (x : FVec F S32x64x96x128 .f32) : FVec F S32x64x96x128 .f32 := Host.divf (expo x) (spread (denom x))

/-- The mass of every batch and channel. -/
def mass (p : FVec F S32x64x96x128 .f32) : FVec F S32x64 .f32 :=
  Host.reduceAdd p (constant S_ .f32 0x00000000#32) reducesTo_S32x64x96x128_S32x64_d2_3 h_S_

/-- The sum of the probabilities weighted by the column. -/
def sumCol (p : FVec F S32x64x96x128 .f32) : FVec F S32x64 .f32 :=
  Host.dotGeneral dot_S32x64x128_S128_S32x64_2_0_01_n_n_n none
    (Host.reduceAdd p (constant S_ .f32 0x00000000#32) reducesTo_S32x64x96x128_S32x64x128_d2 h_S_) (sitofp .f32 (iotaInDim S128 32 0))

/-- The sum of the probabilities weighted by the row. -/
def sumRow (p : FVec F S32x64x96x128 .f32) : FVec F S32x64 .f32 :=
  Host.dotGeneral dot_S32x64x96_S96_S32x64_2_0_01_n_n_n none
    (Host.reduceAdd p (constant S_ .f32 0x00000000#32) reducesTo_S32x64x96x128_S32x64x96_d3 h_S_) (sitofp .f32 (iotaInDim S96 32 0))

/-- The running sum over batches and, within a batch, channels. -/
def scan (v : FVec F S32x64 .f32) : FVec F S32x64 .f32 :=
  shapeCast _ (Host.reduceWindowAdd ![2048] ![1] ![2047] ![0] (shapeCast _ v shapeCasts_S32x64_S2048)
    (broadcastInDim S_ ![] bcast_S_S_ (constant S_ .f32 0x00000000#32)) reduceWindows_S2048_S2048_w2048s1p2047_0 h_S_) shapeCasts_S2048_S32x64

/-- A quotient rounded to the nearest even integer, replaced by `alt` where it exceeds `hi` or is negative; one trailing axis. -/
def coord (hi alt : BitVec 32) (n d : FVec F S32x64 .f32) : FVec F S32x64x1 .f32 :=
  broadcastInDim S32x64x1 ![0, 1] bcast_S32x64_S32x64x1_0_1
    (select (ori (cmpf .ogt (Host.roundeven (Host.divf n d)) (broadcastInDim S32x64 ![] bcast_S_S32x64 (constant S_ .f32 hi)))
        (cmpf .olt (Host.roundeven (Host.divf n d)) (broadcastInDim S32x64 ![] bcast_S_S32x64 (constant S_ .f32 0x00000000#32))))
      (broadcastInDim S32x64 ![] bcast_S_S32x64 (id (constant S_ .f32 alt))) (Host.roundeven (Host.divf n d)))

/-- The keypoints. -/
def keys (p : FVec F S32x64x96x128 .f32) : FVec F S32x64x2 .f32 :=
  concatenate S32x64x2 2 [⟨S32x64x1, coord 0x43000000#32 0x42800000#32 (scan (sumCol p)) (mass p)⟩,
    ⟨S32x64x1, coord 0x42C00000#32 0x42400000#32 (scan (sumRow p)) (mass p)⟩] concatenates_S32x64x1_S32x64x1_S32x64x2_d2

/-- The reference's run, read at its results and arguments. -/
theorem run_values (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10) = prob (m ((c.tc : Thread nD τ).loc main_arg0))
      ∧ r.2.mem ((c.tc : Thread nD τ).loc main_v42) = keys (prob (m ((c.tc : Thread nD τ).loc main_arg0)))
      ∧ r.2.mem ((c.tc : Thread nD τ).loc main_v11) = mass (prob (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans rfl, (h c).2.1.trans (by unfold Value.res_main_v42; rfl), (h c).2.2.1.trans rfl, (h c).2.2.2⟩)
    (Value.run m ρ)

end Cert.ReferenceIdeal.Hand

end
-- ==== Proof.Scan.lean ====
/- The arithmetic of a running sum over the extended reals: the sum over a window reaching back to the first entry is the sum of the
   entries up to the window's end, and the sum up to entry `(b, k)` of an array read row by row is the sum of the earlier rows
   and of the row `b` up to `k`. -/
module

public import Idealize.ShloMosaic.PureOps.Ideal
public import Idealize.ShloMosaic.Lib.Pointwise

@[expose] public section

noncomputable section

namespace Cert.Maths

open Idealize.ShloMosaic

/-- A left fold that adds is a sum. -/
theorem foldl_add {ι : Type*} (l : List ι) (g : ι → EReal) (a : EReal) : l.foldl (fun r n => r + g n) a = a + (l.map g).sum := by
  induction l generalizing a with
  | nil => simp
  | cons n l ih => rw [List.foldl_cons, ih, List.map_cons, List.sum_cons, add_assoc]

/-- Over all of `Fin n`, from zero. -/
theorem foldl_add_finRange {n : ℕ} (g : Fin n → EReal) : (List.finRange n).foldl (fun r k => r + g k) 0 = ∑ k, g k := by
  rw [foldl_add, zero_add, Fin.sum_univ_def]

/-- The entries a window of the whole length, padded below, reaches: those up to its end. -/
theorem sum_window (N M : ℕ) (hN : M + 1 = N) (f : Fin N → EReal) (j : Fin N) :
    (∑ w : Fin N, if h : M ≤ j.val + w.val ∧ j.val + w.val - M < N then f ⟨j.val + w.val - M, h.2⟩ else 0)
      = ∑ i : Fin N, if i.val ≤ j.val then f i else 0 := by
  have hj := j.isLt
  let π : Fin N → Fin N := fun w => if hM : M ≤ j.val + w.val then ⟨j.val + w.val - M, by have := w.isLt; omega⟩
    else ⟨j.val + w.val + 1, by have := w.isLt; omega⟩
  have hπ : Function.Injective π := fun a b hab => by
    have ha := a.isLt
    have hb := b.isLt
    have := congrArg Fin.val hab
    simp only [π] at this
    apply Fin.ext
    split at this <;> split at this <;> simp only at this <;> omega
  refine Eq.trans ?_ ((Equiv.ofBijective π (Finite.injective_iff_bijective.mp hπ)).sum_comp (fun i => if i.val ≤ j.val then f i else 0))
  refine Finset.sum_congr rfl fun w _ => ?_
  have hw := w.isLt
  show _ = if (π w).val ≤ j.val then f (π w) else 0
  by_cases h : M ≤ j.val + w.val
  · have e : π w = ⟨j.val + w.val - M, by omega⟩ := dif_pos h
    rw [dif_pos ⟨h, by omega⟩, e, if_pos (show j.val + w.val - M ≤ j.val by omega)]
  · have e : π w = ⟨j.val + w.val + 1, by omega⟩ := dif_neg h
    rw [dif_neg (fun hh => h hh.1), e, if_neg (show ¬ j.val + w.val + 1 ≤ j.val by omega)]

/-- The host's running sum of a vector, at an entry. -/
theorem window_sum (N M : ℕ) (hN : M + 1 = N) (x : FVec Ideal ⟨1, ![N]⟩ .f32) (init : FVec Ideal ⟨0, ![]⟩ .f32)
    (h : (⟨1, ![N]⟩ : Shape).ReduceWindows (![N] : Fin 1 → ℕ) ![1] ![M] ![0] ⟨1, ![N]⟩) (hu : 0 < (⟨0, ![]⟩ : Shape).numel)
    (h0 : init (Shape.Idx.first hu) = 0) (j : Fin N) :
    Host.reduceWindowAdd ![N] ![1] ![M] ![0] x init h hu (ix1 j) = ∑ i : Fin N, if i.val ≤ j.val then x (ix1 i) else 0 := by
  unfold Host.reduceWindowAdd
  show Ideal.hostReduceWindowAdd ![N] ![1] ![M] ![0] h x (init (Shape.Idx.first hu)) (ix1 j) = _
  unfold Ideal.hostReduceWindowAdd Host.reduceWindow
  rw [h0]
  refine (foldl_add_finRange _).trans ?_
  rw [← sum_window N M hN (fun i => x (ix1 i)) j]
  let G : (⟨1, ![N]⟩ : Shape).Idx → EReal := fun p =>
    if h : M ≤ j.val + (p 0).val ∧ j.val + (p 0).val - M < N then x (ix1 ⟨j.val + (p 0).val - M, h.2⟩) else 0
  refine Eq.trans ?_ ((Equiv.sum_comp ((⟨1, ![N]⟩ : Shape).rowMajor.symm) G).trans (sum_idx1 G))
  refine Finset.sum_congr rfl fun n _ => ?_
  let p : (⟨1, ![N]⟩ : Shape).Idx := (⟨1, ![N]⟩ : Shape).rowMajor.symm n
  by_cases hh : M ≤ j.val + (p 0).val ∧ j.val + (p 0).val - M < N
  · have hG : G p = x (ix1 ⟨j.val + (p 0).val - M, hh.2⟩) := dif_pos hh
    refine Eq.trans (dif_pos fun a => ?_) (Eq.trans (congrArg x (funext fun a => Fin.ext ?_)) hG.symm)
    · match a with
      | ⟨0, _⟩ => show M ≤ j.val * 1 + (p 0).val ∧ j.val * 1 + (p 0).val - M < N; rw [Nat.mul_one]; exact hh
    · match a with
      | ⟨0, _⟩ => show j.val * 1 + (p 0).val - M = j.val + (p 0).val - M; rw [Nat.mul_one]
  · have hG : G p = 0 := dif_neg hh
    refine Eq.trans (dif_neg fun hin => hh ?_) hG.symm
    have h1 : M ≤ j.val * 1 + (p 0).val ∧ j.val * 1 + (p 0).val - M < N := hin 0
    rw [Nat.mul_one] at h1
    exact h1

/-- The sum up to entry `(b, k)` of `B` rows of `n` entries. -/
theorem sum_rows (B n : ℕ) (f : Fin B → Fin n → EReal) (b : Fin B) (k : Fin n) (T : ℕ) (hT : B * n = T) (g : Fin T → EReal)
    (hg : ∀ (i : Fin B) (l : Fin n) (p : Fin T), p.val = i.val * n + l.val → g p = f i l) :
    (∑ p : Fin T, if p.val ≤ b.val * n + k.val then g p else 0)
      = (∑ l : Fin n, if l.val ≤ k.val then f b l else 0) + ∑ i : Fin B, if i.val < b.val then ∑ l : Fin n, f i l else 0 := by
  subst hT
  rw [← finProdFinEquiv.sum_comp, Fintype.sum_prod_type]
  have hrow : ∀ i : Fin B, (∑ l : Fin n, if (finProdFinEquiv (i, l)).val ≤ b.val * n + k.val then g (finProdFinEquiv (i, l)) else 0)
      = (if i = b then ∑ l : Fin n, if l.val ≤ k.val then f b l else 0 else 0) + (if i.val < b.val then ∑ l : Fin n, f i l else 0) := by
    intro i
    have hv : ∀ l : Fin n, (finProdFinEquiv (i, l)).val = i.val * n + l.val := fun l => by
      show l.val + n * i.val = _; rw [Nat.mul_comm, Nat.add_comm]
    have hgl : ∀ l : Fin n, g (finProdFinEquiv (i, l)) = f i l := fun l => hg i l _ (hv l)
    simp only [hv, hgl]
    have hk := k.isLt
    rcases lt_trichotomy i.val b.val with hlt | heq | hgt
    · rw [if_neg (fun h => by rw [h] at hlt; exact lt_irrefl _ hlt), if_pos hlt, zero_add]
      refine Finset.sum_congr rfl fun l _ => if_pos ?_
      have hl := l.isLt
      have := Nat.mul_le_mul_right n (Nat.succ_le_of_lt hlt)
      rw [Nat.succ_mul] at this
      omega
    · obtain rfl : i = b := Fin.ext heq
      rw [if_pos rfl, if_neg (lt_irrefl _), add_zero]
      refine Finset.sum_congr rfl fun l _ => ?_
      simp only [Nat.add_le_add_iff_left]
    · rw [if_neg (fun h => by rw [h] at hgt; exact lt_irrefl _ hgt), if_neg (not_lt.mpr hgt.le), zero_add]
      refine Finset.sum_eq_zero fun l _ => if_neg ?_
      have := Nat.mul_le_mul_right n (Nat.succ_le_of_lt hgt)
      rw [Nat.succ_mul] at this
      omega
  simp only [hrow]
  rw [Finset.sum_add_distrib, Finset.sum_ite_eq' Finset.univ b, if_pos (Finset.mem_univ b)]

end Cert.Maths

end
-- ==== Proof.Top.lean ====
/- The maximum over the second of four axes, at an index: no entry exceeds it, and when it is not −∞ one entry attains it. -/
module

public import Idealize.ShloMosaic.PureOps.Ideal
public import Idealize.ShloMosaic.Lib.Pointwise

@[expose] public section

noncomputable section

namespace Cert.Maths

open Idealize.ShloMosaic

/-- The word of −∞ is the least extended real. -/
theorem neg_inf : Ideal.ofBits .f32 0xFF800000#32 = ⊥ := by simp [Ideal.ofBits, Ideal.ieee]
/-- The word of +∞ is the greatest. -/
theorem pos_inf : Ideal.ofBits .f32 0x7F800000#32 = ⊤ := by simp [Ideal.ofBits, Ideal.ieee]

/-- A further maximum with −∞ changes nothing. -/
theorem max_neg_inf {s : Shape} (y : FVec Ideal s .f32) (hb : (⟨0, ![]⟩ : Shape).BroadcastsInDim s (![] : Fin 0 → Fin s.rank)) :
    maximumf (F := Ideal) (broadcastInDim s ![] hb (constant (F := Ideal) ⟨0, ![]⟩ .f32 0xFF800000#32)) y = y := by
  funext i
  show max (Ideal.ofBits .f32 0xFF800000#32) (y i) = y i
  rw [neg_inf]
  exact max_eq_right bot_le

variable {n0 n1 n2 n3 : ℕ}

/-- The maximum over the second axis, as a fold. -/
theorem max_fold (x : FVec Ideal ⟨4, ![n0, n1, n2, n3]⟩ .f32) (h : (⟨4, ![n0, n1, n2, n3]⟩ : Shape).ReducesTo [1] ⟨3, ![n0, n2, n3]⟩)
    (hu : 0 < (⟨0, ![]⟩ : Shape).numel) (a : Fin n0) (c : Fin n2) (d : Fin n3) :
    Host.reduce FloatOps.maximumf x (constant (F := Ideal) ⟨0, ![]⟩ .f32 0xFF800000#32) h hu (ix3 a c d)
      = Finset.univ.fold max (⊥ : EReal) fun k : Fin n1 => x (ix4 a k c d) := by
  rw [← neg_inf]
  simp only [pointwise]

/-- No entry exceeds the maximum. -/
theorem le_max (x : FVec Ideal ⟨4, ![n0, n1, n2, n3]⟩ .f32) (h : (⟨4, ![n0, n1, n2, n3]⟩ : Shape).ReducesTo [1] ⟨3, ![n0, n2, n3]⟩)
    (hu : 0 < (⟨0, ![]⟩ : Shape).numel) (a : Fin n0) (c : Fin n2) (d : Fin n3) (k : Fin n1) :
    x (ix4 a k c d) ≤ Host.reduce FloatOps.maximumf x (constant (F := Ideal) ⟨0, ![]⟩ .f32 0xFF800000#32) h hu (ix3 a c d) := by
  rw [max_fold]
  exact ((Finset.fold_max_le (Finset.univ.fold max (⊥ : EReal) fun k : Fin n1 => x (ix4 a k c d))).mp le_rfl).2 k (Finset.mem_univ k)

/-- One entry attains it, when it is not −∞. -/
theorem max_attained (x : FVec Ideal ⟨4, ![n0, n1, n2, n3]⟩ .f32) (h : (⟨4, ![n0, n1, n2, n3]⟩ : Shape).ReducesTo [1] ⟨3, ![n0, n2, n3]⟩)
    (hu : 0 < (⟨0, ![]⟩ : Shape).numel) (a : Fin n0) (c : Fin n2) (d : Fin n3)
    (hb : Host.reduce FloatOps.maximumf x (constant (F := Ideal) ⟨0, ![]⟩ .f32 0xFF800000#32) h hu (ix3 a c d) ≠ (⊥ : EReal)) :
    ∃ k, x (ix4 a k c d) = Host.reduce FloatOps.maximumf x (constant (F := Ideal) ⟨0, ![]⟩ .f32 0xFF800000#32) h hu (ix3 a c d) := by
  have hle := le_max x h hu a c d
  rw [max_fold] at hb hle ⊢
  rcases (Finset.le_fold_max _).mp (le_refl (Finset.univ.fold max (⊥ : EReal) fun k : Fin n1 => x (ix4 a k c d))) with h0 | ⟨k, _, hk⟩
  · exact absurd (le_bot_iff.mp h0) hb
  · exact ⟨k, le_antisymm (max_fold x h hu a c d ▸ hle k) hk⟩

/-- An extended real whose absolute value is below +∞ is a real number. -/
theorem real_of_abs_lt (v : EReal) (h : max v (-v) < ⊤) : ∃ r : ℝ, v = (r : EReal) := by
  induction v using EReal.rec with
  | bot => exact absurd h (by simp)
  | top => exact absurd h (by simp)
  | coe r => exact ⟨r, rfl⟩

/-- Where the comparison of absolute values with +∞ holds at an index, the value there is a real number. -/
theorem real_of_cmp {s : Shape} (v : FVec Ideal s .f32) (hb : (⟨0, ![]⟩ : Shape).BroadcastsInDim s (![] : Fin 0 → Fin s.rank)) (i : s.Idx)
    (h : cmpf (F := Ideal) .olt (Host.absf v) (broadcastInDim s ![] hb (constant (F := Ideal) ⟨0, ![]⟩ .f32 0x7F800000#32)) i = 1#1) :
    ∃ r : ℝ, v i = (r : EReal) := by
  have h1 : BitVec.ofBool (decide (max (v i) (-(v i)) < Ideal.ofBits .f32 0x7F800000#32)) = 1#1 := h
  rw [pos_inf] at h1
  by_cases hh : max (v i) (-(v i)) < (⊤ : EReal)
  · exact real_of_abs_lt _ hh
  · rw [decide_eq_false hh] at h1
    exact absurd h1 (by decide)

end Cert.Maths

end
-- ==== Proof.RefValue.lean ====
/- What the reference's pieces hold at an index, as sums over the extended reals. -/
module

public import proofs.«01_k».proof.Proof.Reference
public import proofs.«01_k».proof.Proof.Scan
public import proofs.«01_k».proof.Proof.Softmax
public import proofs.«01_k».proof.Proof.Top
public import Idealize.ShloMosaic.Lib.Pointwise

@[expose] public section

set_option maxRecDepth 16384

noncomputable section

namespace Cert.ReferenceIdeal.Hand

open Cert.ReferenceIdeal Cert.ReferenceIdeal.Gen
open Idealize.ShloMosaic

/-- The largest channel, as a plain reduction. -/
abbrev peak (x : FVec Ideal S32x64x96x128 .f32) : FVec Ideal S32x96x128 .f32 :=
  Host.reduce FloatOps.maximumf x (constant (F := Ideal) S_ .f32 0xFF800000#32) reducesTo_S32x64x96x128_S32x96x128_d1 h_S_

/-- A further maximum with −∞ changes nothing. -/
theorem top_eq (x : FVec Ideal S32x64x96x128 .f32) : top (F := Ideal) x = peak x := by
  unfold top
  exact Maths.max_neg_inf _ _

/-- A probability: the exponential of the channel less the largest, over the sum of these. -/
theorem prob_at (x : FVec Ideal S32x64x96x128 .f32) (b : Fin 32) (k : Fin 64) (h : Fin 96) (w : Fin 128) :
    prob (F := Ideal) x (ix4 b k h w) = Ideal.div (Ideal.exp (x (ix4 b k h w) - top x (ix3 b h w)))
      (∑ k', Ideal.exp (x (ix4 b k' h w) - top x (ix3 b h w))) := by
  pointwise [prob, expo, denom, spread]
  all_goals rfl

/-- The mass of a batch and channel. -/
theorem mass_at (p : FVec Ideal S32x64x96x128 .f32) (b : Fin 32) (k : Fin 64) :
    mass (F := Ideal) p (ix2 b k) = ∑ h, ∑ w, p (ix4 b k h w) := by
  pointwise [mass]
  all_goals rfl

/-- The sum of a batch and channel weighted by the column. -/
theorem sumCol_at (p : FVec Ideal S32x64x96x128 .f32) (b : Fin 32) (k : Fin 64) :
    sumCol (F := Ideal) p (ix2 b k)
      = ∑ w : Fin 128, (∑ h, p (ix4 b k h w)) * FloatOps.sitofp (F := Ideal) FTy.f32 (BitVec.ofNat 32 w.val) := by
  pointwise [sumCol]
  all_goals rfl

/-- The sum weighted by the row. -/
theorem sumRow_at (p : FVec Ideal S32x64x96x128 .f32) (b : Fin 32) (k : Fin 64) :
    sumRow (F := Ideal) p (ix2 b k)
      = ∑ h : Fin 96, (∑ w, p (ix4 b k h w)) * FloatOps.sitofp (F := Ideal) FTy.f32 (BitVec.ofNat 32 h.val) := by
  pointwise [sumRow]
  all_goals rfl

/-- The running sum over batches and channels. -/
theorem scan_at (v : FVec Ideal S32x64 .f32) (b : Fin 32) (k : Fin 64) :
    scan (F := Ideal) v (ix2 b k)
      = (∑ l : Fin 64, if l.val ≤ k.val then v (ix2 b l) else 0) + ∑ i : Fin 32, if i.val < b.val then ∑ l : Fin 64, v (ix2 i l) else 0 := by
  have h1 : scan (F := Ideal) v (ix2 b k) = Host.reduceWindowAdd (F := Ideal) ![2048] ![1] ![2047] ![0] (shapeCast S2048 v shapeCasts_S32x64_S2048)
    (broadcastInDim S_ ![] bcast_S_S_ (constant S_ .f32 0x00000000#32)) reduceWindows_S2048_S2048_w2048s1p2047_0 h_S_
      (ix1 ⟨b.val * 64 + k.val, by have := b.isLt; have := k.isLt; omega⟩) := by
    pointwise [scan]
    all_goals rfl
  rw [h1]
  refine (Maths.window_sum 2048 2047 rfl _ _ _ _ (by pointwise) _).trans ?_
  refine Maths.sum_rows 32 64 (fun i l => v (ix2 i l)) b k 2048 rfl _ fun i l p hp => ?_
  pointwise
  have hl := l.isLt
  have e1 : (⟨p.val / 64, by have := p.isLt; omega⟩ : Fin 32) = i := Fin.ext (by show p.val / 64 = i.val; omega)
  have e2 : (⟨p.val % 64, by omega⟩ : Fin 64) = l := Fin.ext (by show p.val % 64 = l.val; omega)
  rw [e1, e2]

/-- A coordinate: a quotient rounded and clamped. -/
theorem coord_at (hi alt : BitVec 32) (n d : FVec Ideal S32x64 .f32) (b : Fin 32) (k : Fin 64) (z : Fin 1) :
    coord (F := Ideal) hi alt n d (ix3 b k z) = Maths.clampRound hi alt (Ideal.div (n (ix2 b k)) (d (ix2 b k))) := by
  unfold Maths.clampRound
  pointwise [coord]
  all_goals rfl

/-- The keypoints' two coordinates. -/
theorem keys_at (p : FVec Ideal S32x64x96x128 .f32) (b : Fin 32) (k : Fin 64) (j : Fin 2) :
    keys (F := Ideal) p (ix3 b k j) = if j.val = 0
      then Maths.clampRound 0x43000000#32 0x42800000#32 (Ideal.div (scan (sumCol p) (ix2 b k)) (mass p (ix2 b k)))
      else Maths.clampRound 0x42C00000#32 0x42400000#32 (Ideal.div (scan (sumRow p) (ix2 b k)) (mass p (ix2 b k))) := by
  have h1 : keys (F := Ideal) p (ix3 b k j) = if h : j.val < 1
      then coord 0x43000000#32 0x42800000#32 (scan (sumCol p)) (mass p) (ix3 b k ⟨j.val, h⟩)
      else coord 0x42C00000#32 0x42400000#32 (scan (sumRow p)) (mass p) (ix3 b k ⟨j.val - 1, by have := j.isLt; omega⟩) := by
    pointwise [keys]
    all_goals rfl
  rw [h1]
  by_cases h : j.val < 1
  · rw [dif_pos h, coord_at, if_pos (by omega)]
  · rw [dif_neg h, coord_at, if_neg (by omega)]

end Cert.ReferenceIdeal.Hand

end
-- ==== Proof.Equation.lean ====
/- The equation: on inputs whose largest channel is finite at every pixel, the kernel's three result arrays are the reference's. -/
module

public import proofs.«01_k».proof.Proof.Launch
public import proofs.«01_k».proof.Proof.KernelValue
public import proofs.«01_k».proof.Proof.RefValue
public import proofs.«01_k».proof.Proof.Softmax

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The input array. -/
abbrev input : FVec Ideal S32x64x96x128 .f32 := m ((c.tc : Thread nD τ).loc main_arg0)

/-- Where the input's blocks lie. -/
theorem idx_in : ∀ t : Fin cfg0.N, win0_0.index t = ![t.val, 0, 0, 0] := (by decide +kernel : ∀ t : Fin grid0.N, _)

/-- The place of batch `b` in its block. -/
def half (b : Fin 32) : Fin 2 := ⟨b.val % 2, Nat.mod_lt _ (by decide)⟩

/-- The exponentials a point computes are those of its two batches. -/
theorem exp_at (b : Fin 32) (k : Fin 64) (h : Fin 96) (w : Fin 128) :
    expAt m c (ptOf b) (ix4 (half b) k h w) = Ideal.exp (input m c (ix4 b k h w)) := by
  have h1 : expAt m c (ptOf b) (ix4 (half b) k h w) = Ideal.exp (iblk m c 0 (ptOf b) (ix4 (half b) k h w)) := by
    unfold expAt
    generalize iblk m c 0 (ptOf b) = x
    pointwise [k0_pay10]
  rw [h1]
  congr 1
  have e : (ptOf b).val = b.val / 2 := rfl
  have e2 : (half b).val = b.val % 2 := rfl
  blk_simp [iblk, V]
  refine congrArg (m ((c.tc : Thread nD τ).loc main_arg0)) (funext fun a => Fin.ext ?_)
  match a with
  | ⟨0, _⟩ => blk_simp [idx_in]; rw [e, e2]; omega
  | ⟨1, _⟩ => blk_simp [idx_in]
  | ⟨2, _⟩ => blk_simp [idx_in]
  | ⟨3, _⟩ => blk_simp [idx_in]

/-- The largest channel at every pixel is a real number. -/
def TopFinite (x : FVec Ideal S32x64x96x128 .f32) : Prop :=
  ∀ (b : Fin 32) (h : Fin 96) (w : Fin 128), ∃ μ : ℝ, ReferenceIdeal.Hand.top (F := Ideal) x (ix3 b h w) = (μ : EReal)

/-- Every probability is a real number, and the kernel's quotient is the reference's. -/
theorem quotient (x : FVec Ideal S32x64x96x128 .f32) (hx : TopFinite x) (b : Fin 32) (k : Fin 64) (h : Fin 96) (w : Fin 128) :
    ∃ r : ℝ, ReferenceIdeal.Hand.prob (F := Ideal) x (ix4 b k h w) = (r : EReal)
      ∧ Ideal.exp (x (ix4 b k h w)) * Ideal.div 1 (∑ k', Ideal.exp (x (ix4 b k' h w))) = (r : EReal) := by
  obtain ⟨μ, hμ⟩ := hx b h w
  rw [ReferenceIdeal.Hand.prob_at, hμ]
  rw [ReferenceIdeal.Hand.top_eq] at hμ
  obtain ⟨k₀, h₀⟩ := Maths.max_attained x _ _ b h w (hμ.trans_ne (EReal.coe_ne_bot μ))
  refine Maths.softmax (fun k' => x (ix4 b k' h w)) μ (fun k' => ?_) k₀ (h₀.trans hμ) k
  exact (Maths.le_max x _ _ b h w k').trans_eq hμ

/-- A block's probabilities are the reference's. -/
theorem probs_eq (hx : TopFinite (input m c)) (b : Fin 32) (k : Fin 64) (h : Fin 96) (w : Fin 128) :
    probs (F := Ideal) (expAt m c (ptOf b)) (ix4 (half b) k h w) = ReferenceIdeal.Hand.prob (F := Ideal) (input m c) (ix4 b k h w) := by
  obtain ⟨r, hr, hk⟩ := quotient (input m c) hx b k h w
  rw [probs_at, hr, ← hk]
  simp only [exp_at]

/-- The first result. -/
theorem probArr_eq (hx : TopFinite (input m c)) : probArr m c = ReferenceIdeal.Hand.prob (F := Ideal) (input m c) := by
  funext y
  obtain ⟨b, k, h, w, rfl⟩ : ∃ (b : Fin 32) (k : Fin 64) (h : Fin 96) (w : Fin 128), y = ix4 b k h w := ⟨y 0, y 1, y 2, y 3, eq_ix4 y⟩
  exact probs_eq m c hx b k h w

/-- The first row of the statistics is the reference's mass. -/
theorem row_mass (hx : TopFinite (input m c)) (b : Fin 32) (k : Fin 64) :
    rowOf (stats m c) 0 (ix3 b 0 k) = ReferenceIdeal.Hand.mass (F := Ideal) (ReferenceIdeal.Hand.prob (F := Ideal) (input m c)) (ix2 b k) := by
  have e : rowOf (stats m c) 0 (ix3 b 0 k) = statRow (F := Ideal) (expAt m c (ptOf b)) 0 (ix3 (half b) 0 k) := rfl
  rw [e, statRow0_at, ReferenceIdeal.Hand.mass_at, Finset.sum_comm]
  simp only [probs_eq m c hx]
/-- The second row is the reference's sum weighted by the column. -/
theorem row_col (hx : TopFinite (input m c)) (b : Fin 32) (k : Fin 64) :
    rowOf (stats m c) 1 (ix3 b 0 k) = ReferenceIdeal.Hand.sumCol (F := Ideal) (ReferenceIdeal.Hand.prob (F := Ideal) (input m c)) (ix2 b k) := by
  have e : rowOf (stats m c) 1 (ix3 b 0 k) = statRow (F := Ideal) (expAt m c (ptOf b)) 1 (ix3 (half b) 0 k) := rfl
  rw [e, statRow1_at, ReferenceIdeal.Hand.sumCol_at]
  simp only [probs_eq m c hx]
/-- The third row is the reference's sum weighted by the row. -/
theorem row_row (hx : TopFinite (input m c)) (b : Fin 32) (k : Fin 64) :
    rowOf (stats m c) 2 (ix3 b 0 k) = ReferenceIdeal.Hand.sumRow (F := Ideal) (ReferenceIdeal.Hand.prob (F := Ideal) (input m c)) (ix2 b k) := by
  have e : rowOf (stats m c) 2 (ix3 b 0 k) = statRow (F := Ideal) (expAt m c (ptOf b)) 2 (ix3 (half b) 0 k) := rfl
  rw [e, statRow2_at, ReferenceIdeal.Hand.sumRow_at]
  simp only [probs_eq m c hx]
  exact Maths.sum_weight _ (fun h w => (quotient (input m c) hx b k h w).imp fun _ hr => hr.1) _ fun h => ⟨_, rfl⟩

/-- The third result. -/
theorem massOf_eq (hx : TopFinite (input m c)) :
    massOf (stats m c) = ReferenceIdeal.Hand.mass (F := Ideal) (ReferenceIdeal.Hand.prob (F := Ideal) (input m c)) := by
  funext y
  obtain ⟨b, k, rfl⟩ : ∃ (b : Fin 32) (k : Fin 64), y = ix2 b k := ⟨y 0, y 1, eq_ix2 y⟩
  exact (mass_row _ b k).trans (row_mass m c hx b k)

/-- A running sum of a row of the statistics is the reference's of the array the row holds. -/
theorem running_eq (v : FVec Ideal S32x1x64 .f32) (y : FVec Ideal S32x64 .f32) (h : ∀ b k, v (ix3 b 0 k) = y (ix2 b k)) (b : Fin 32) (k : Fin 64) :
    k0_pay8 (F := Ideal) v (ix2 b k) = ReferenceIdeal.Hand.scan (F := Ideal) y (ix2 b k) := by
  rw [running_at, ReferenceIdeal.Hand.scan_at]
  simp only [h]

/-- The second result. -/
theorem keyOf_eq (hx : TopFinite (input m c)) :
    keyOf (stats m c) = ReferenceIdeal.Hand.keys (F := Ideal) (ReferenceIdeal.Hand.prob (F := Ideal) (input m c)) := by
  funext y
  obtain ⟨b, k, j, rfl⟩ : ∃ (b : Fin 32) (k : Fin 64) (j : Fin 2), y = ix3 b k j := ⟨y 0, y 1, y 2, eq_ix3 y⟩
  rw [ReferenceIdeal.Hand.keys_at]
  show (if j.val = 0 then k0_pay3 (F := Ideal) (k0_pay9 (rowOf (stats m c) 0) (rowOf (stats m c) 1)) (ix3 b k 0)
    else k0_pay4 (F := Ideal) (massOf (stats m c)) (k0_pay8 (rowOf (stats m c) 2)) (ix3 b k 0)) = _
  rw [first_at, second_at, ratio_at, running_eq _ _ (row_col m c hx), running_eq _ _ (row_row m c hx), row_mass m c hx, massOf_eq m c hx]

end Cert.KernelIdeal.Hand

end
-- ==== Proof.lean ====
/- The claim, assembled: the frames of the three programs, the kernel's idealization, and the value claim that the kernel's
   three results are the reference's wherever every pixel's largest channel is finite. -/
module

public import proofs.«01_k».proof.Defs
public import proofs.«01_k».proof.Proof.Twin
public import proofs.«01_k».proof.Proof.Equation
public import proofs.«01_k».proof.Proof.Gen.Pre_channel_max_finite
public import Idealize.ShloMosaic.Lib.Claim
public import Idealize.ShloMosaic.Lib.Quiescent

@[expose] public section

set_option maxRecDepth 16384

noncomputable section

namespace Cert.Proof

open Idealize.ShloMosaic Idealize.ShloMosaic.TcCoe Idealize.SL.Sem

/-- The reference's frame. -/
theorem frame_reference : Cert.quiescent_ReferenceIdeal := by
  intro m g _
  refine (θ_run _ _ _).mono (fun r h => ⟨?_, sem_eq_zero_of_no_sems rfl _⟩) (Cert.ReferenceIdeal.Hand.run_values m g)
  exact fun c => ⟨(h c).2.2.2.1, (h c).2.2.2.2.1, (h c).2.2.2.2.2⟩

/-- The precondition, read: the largest channel is a real number at every pixel. -/
theorem finite_of_pre (x : FVec Ideal Cert.KernelIdeal.S32x64x96x128 .f32) (p q : IVec Cert.KernelIdeal.S_ 32)
    (h : Cert.Pre_channel_max_finite.fn (F := Ideal) x p q = fun _ => 1#1) : Cert.KernelIdeal.Hand.TopFinite x := by
  intro b r w
  rw [Cert.ReferenceIdeal.Hand.top_eq]
  exact Cert.Maths.real_of_cmp _ _ _ (congrFun h (ix3 b r w))

/-- The value claim: the kernel's three results are the reference's. -/
theorem algebraic : Cert.algebraic_KernelIdeal_ReferenceIdeal_pre_channel_max_finite := by
  intro m g m' g' hpre hagree
  have hx : ∀ c, Cert.KernelIdeal.Hand.TopFinite (Cert.KernelIdeal.Hand.input m c) := fun c => finite_of_pre _ _ _ (hpre c)
  have hin : ∀ c : Dev Cert.KernelIdeal.nD,
      Cert.ReferenceIdeal.Hand.prob (F := Ideal) (m' ((c.tc : Thread Cert.ReferenceIdeal.nD Cert.ReferenceIdeal.τ).loc Cert.ReferenceIdeal.main_arg0))
        = Cert.ReferenceIdeal.Hand.prob (F := Ideal) (Cert.KernelIdeal.Hand.input m c) := fun c =>
    congrArg (Cert.ReferenceIdeal.Hand.prob (F := Ideal)) (hagree c).1
  refine ⟨Cert.KernelIdeal.Hand.probArr m, fun c => Cert.KernelIdeal.Hand.keyOf (Cert.KernelIdeal.Hand.stats m c),
    fun c => Cert.KernelIdeal.Hand.massOf (Cert.KernelIdeal.Hand.stats m c), Cert.KernelIdeal.Hand.run_values m g, ?_⟩
  refine (θ_run _ _ _).mono (fun r h c => ⟨(h c).1.trans ?_, (h c).2.1.trans ?_, (h c).2.2.1.trans ?_, (h c).2.2.2⟩)
    (Cert.ReferenceIdeal.Hand.run_values m' g')
  · exact (hin c).trans (Cert.KernelIdeal.Hand.probArr_eq m c (hx c)).symm
  · exact (congrArg (Cert.ReferenceIdeal.Hand.keys (F := Ideal)) (hin c)).trans (Cert.KernelIdeal.Hand.keyOf_eq m c (hx c)).symm
  · exact (congrArg (Cert.ReferenceIdeal.Hand.mass (F := Ideal)) (hin c)).trans (Cert.KernelIdeal.Hand.massOf_eq m c (hx c)).symm

/-- Everything the certificate claims. -/
theorem claim : Cert.Claim := ⟨Cert.Kernel.Gen.facts, Cert.KernelIdeal.Gen.facts, Cert.ReferenceIdeal.Gen.facts,
  Cert.Pre_channel_max_finite.Gen.facts,
  fun m g _ => Cert.Kernel.Hand.frame m g,
  fun m g _ => Cert.KernelIdeal.Hand.frame_quiescent m g,
  fun m g _ => Cert.KernelIdeal.Hand.frame_quiescent m g,
  frame_reference, fun m g _ => frame_reference m g trivial, trivial, algebraic⟩

end Cert.Proof

end
